-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v170) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal_pre_pre (hKernelIdeal := hKernelIdeal) (hReferenceIdeal := hReferenceIdeal) (hPre_pre := hPre_pre)
-- ==== Pre_pre.lean ====
abbrev S1x96x224x224 : Shape := ⟨4, ![1, 96, 224, 224]⟩
abbrev S1x1x224x224 : Shape := ⟨4, ![1, 1, 224, 224]⟩
abbrev S96x96x3x3 : Shape := ⟨4, ![96, 96, 3, 3]⟩
abbrev S96 : Shape := ⟨1, ![96]⟩
abbrev S_ : Shape := ⟨0, ![]⟩

class Facts : Prop where
  bcast_S_S1x1x224x224 : S_.BroadcastsInDim S1x1x224x224 (![] : Fin 0 → Fin S1x1x224x224.rank)
  reducesTo_S1x1x224x224_S_d0_1_2_3 : S1x1x224x224.ReducesTo [0, 1, 2, 3] S_
  h_S_ : 0 < S_.numel
  bcast_S_S96x96x3x3 : S_.BroadcastsInDim S96x96x3x3 (![] : Fin 0 → Fin S96x96x3x3.rank)
  reducesTo_S96x96x3x3_S_d0_1_2_3 : S96x96x3x3.ReducesTo [0, 1, 2, 3] S_

variable [Facts]

def fn {F : FTy → Type} [FloatOps F] (main_arg0 : FVec F S1x96x224x224 .f32) (main_arg1 : FVec F S1x1x224x224 .f32) (main_arg2 : FVec F S96x96x3x3 .f32) (main_arg3 : FVec F S96 .f32) : IVec S_ 1 :=
  let main_cst : FVec F S_ .f32 := constant S_ .f32 0x00000000#32
  let main_v0 : FVec F S1x1x224x224 .f32 := broadcastInDim S1x1x224x224 ![] bcast_S_S1x1x224x224 main_cst
  let main_v1 : IVec S1x1x224x224 1 := cmpf .oge main_arg1 main_v0
  let main_cst_0 : FVec F S_ .f32 := constant S_ .f32 0x3F800000#32
  let main_v2 : FVec F S1x1x224x224 .f32 := broadcastInDim S1x1x224x224 ![] bcast_S_S1x1x224x224 main_cst_0
  let main_v3 : IVec S1x1x224x224 1 := cmpf .ole main_arg1 main_v2
  let main_v4 : IVec S1x1x224x224 1 := andi main_v1 main_v3
  let main_c : IVec S_ 1 := constantI S_ 1 1#1
  let main_v5 : IVec S_ 1 := (fun x v => Host.reduce IntOp.andi x v reducesTo_S1x1x224x224_S_d0_1_2_3 h_S_) main_v4 main_c
  let main_v6 : FVec F S96x96x3x3 .f32 := Host.absf main_arg2
  let main_cst_1 : FVec F S_ .f32 := constant S_ .f32 0x7F800000#32
  let main_v7 : FVec F S96x96x3x3 .f32 := broadcastInDim S96x96x3x3 ![] bcast_S_S96x96x3x3 main_cst_1
  let main_v8 : IVec S96x96x3x3 1 := cmpf .olt main_v6 main_v7
  let main_c_2 : IVec S_ 1 := constantI S_ 1 1#1
  let main_v9 : IVec S_ 1 := (fun x v => Host.reduce IntOp.andi x v reducesTo_S96x96x3x3_S_d0_1_2_3 h_S_) main_v8 main_c_2
  let main_v10 : IVec S_ 1 := andi main_v5 main_v9
  main_v10
-- ==== Kernel.lean ====
abbrev S1x96x224x224 : Shape := ⟨4, ![1, 96, 224, 224]⟩
abbrev S1x1x224x224 : Shape := ⟨4, ![1, 1, 224, 224]⟩
abbrev S96x96x3x3 : Shape := ⟨4, ![96, 96, 3, 3]⟩
abbrev S96 : Shape := ⟨1, ![96]⟩
abbrev S9 : Shape := ⟨1, ![9]⟩
abbrev S96x224x224 : Shape := ⟨3, ![96, 224, 224]⟩
abbrev S224x96x224 : Shape := ⟨3, ![224, 96, 224]⟩
abbrev S_ : Shape := ⟨0, ![]⟩
abbrev S232x96x230 : Shape := ⟨3, ![232, 96, 230]⟩
abbrev S224x224 : Shape := ⟨2, ![224, 224]⟩
abbrev S96x96x9 : Shape := ⟨3, ![96, 96, 9]⟩
abbrev S96x96x3 : Shape := ⟨3, ![96, 96, 3]⟩
abbrev S9x1 : Shape := ⟨2, ![9, 1]⟩
abbrev S96x9x96 : Shape := ⟨3, ![96, 9, 96]⟩
abbrev S96x864 : Shape := ⟨2, ![96, 864]⟩
abbrev S96x1 : Shape := ⟨2, ![96, 1]⟩
abbrev S8x224 : Shape := ⟨2, ![8, 224]⟩
abbrev S8x96x230 : Shape := ⟨3, ![8, 96, 230]⟩
abbrev S96x8x224 : Shape := ⟨3, ![96, 8, 224]⟩
abbrev S8x864x224 : Shape := ⟨3, ![8, 864, 224]⟩
abbrev S1x96x224 : Shape := ⟨3, ![1, 96, 224]⟩
abbrev S96x224 : Shape := ⟨2, ![96, 224]⟩
abbrev S1x224 : Shape := ⟨2, ![1, 224]⟩
abbrev S1x864x224 : Shape := ⟨3, ![1, 864, 224]⟩
abbrev S864x224 : Shape := ⟨2, ![864, 224]⟩
abbrev S96x1x224 : Shape := ⟨3, ![96, 1, 224]⟩

abbrev nBuf : Space → Nat
  | .hbm => 32
  | .vmem => 11
  | .smem => 0
  | _ => 0

abbrev bufTy : (tb : Table) → Fin (tcTables nBuf tb) → BufTy
  | .hbm, ⟨0, _⟩ => ⟨S1x96x224x224, .f32⟩
  | .hbm, ⟨1, _⟩ => ⟨S1x1x224x224, .f32⟩
  | .hbm, ⟨2, _⟩ => ⟨S96x96x3x3, .f32⟩
  | .hbm, ⟨3, _⟩ => ⟨S96, .f32⟩
  | .hbm, ⟨4, _⟩ => ⟨S9, .i32⟩
  | .hbm, ⟨5, _⟩ => ⟨S96x224x224, .f32⟩
  | .hbm, ⟨6, _⟩ => ⟨S224x96x224, .f32⟩
  | .hbm, ⟨7, _⟩ => ⟨S_, .i32⟩
  | .hbm, ⟨8, _⟩ => ⟨S_, .f32⟩
  | .hbm, ⟨9, _⟩ => ⟨S232x96x230, .f32⟩
  | .hbm, ⟨10, _⟩ => ⟨S232x96x230, .bf16⟩
  | .hbm, ⟨11, _⟩ => ⟨S224x224, .f32⟩
  | .hbm, ⟨12, _⟩ => ⟨S96x96x9, .f32⟩
  | .hbm, ⟨13, _⟩ => ⟨S96x96x3, .f32⟩
  | .hbm, ⟨14, _⟩ => ⟨S96x96x3, .f32⟩
  | .hbm, ⟨15, _⟩ => ⟨S96x96x3, .f32⟩
  | .hbm, ⟨16, _⟩ => ⟨S96x96x3, .f32⟩
  | .hbm, ⟨17, _⟩ => ⟨S96x96x9, .f32⟩
  | .hbm, ⟨18, _⟩ => ⟨S_, .i32⟩
  | .hbm, ⟨19, _⟩ => ⟨S9, .i32⟩
  | .hbm, ⟨20, _⟩ => ⟨S9, .i1⟩
  | .hbm, ⟨21, _⟩ => ⟨S_, .i32⟩
  | .hbm, ⟨22, _⟩ => ⟨S9, .i32⟩
  | .hbm, ⟨23, _⟩ => ⟨S9, .i32⟩
  | .hbm, ⟨24, _⟩ => ⟨S9, .i32⟩
  | .hbm, ⟨25, _⟩ => ⟨S9x1, .i32⟩
  | .hbm, ⟨26, _⟩ => ⟨S96x96x9, .f32⟩
  | .hbm, ⟨27, _⟩ => ⟨S96x9x96, .f32⟩
  | .hbm, ⟨28, _⟩ => ⟨S96x864, .f32⟩
  | .hbm, ⟨29, _⟩ => ⟨S96x864, .bf16⟩
  | .hbm, ⟨30, _⟩ => ⟨S96x1, .f32⟩
  | .hbm, ⟨31, _⟩ => ⟨S96x224x224, .f32⟩
  | .local _ .vmem, ⟨0, _⟩ => ⟨S8x224, .f32⟩
  | .local _ .vmem, ⟨1, _⟩ => ⟨S8x224, .f32⟩
  | .local _ .vmem, ⟨2, _⟩ => ⟨S8x96x230, .bf16⟩
  | .local _ .vmem, ⟨3, _⟩ => ⟨S8x96x230, .bf16⟩
  | .local _ .vmem, ⟨4, _⟩ => ⟨S8x96x230, .bf16⟩
  | .local _ .vmem, ⟨5, _⟩ => ⟨S8x96x230, .bf16⟩
  | .local _ .vmem, ⟨6, _⟩ => ⟨S96x864, .bf16⟩
  | .local _ .vmem, ⟨7, _⟩ => ⟨S96x1, .f32⟩
  | .local _ .vmem, ⟨8, _⟩ => ⟨S96x8x224, .f32⟩
  | .local _ .vmem, ⟨9, _⟩ => ⟨S96x8x224, .f32⟩
  | .local _ .vmem, ⟨10, _⟩ => ⟨S8x864x224, .bf16⟩
  | _, _ => ⟨S1x96x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![28], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x96x230 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x96x230 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S96x864 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S96x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S96x8x224 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S1x96x224x224 : Shape := ⟨4, ![1, 96, 224, 224]⟩
abbrev S1x1x224x224 : Shape := ⟨4, ![1, 1, 224, 224]⟩
abbrev S96x96x3x3 : Shape := ⟨4, ![96, 96, 3, 3]⟩
abbrev S96 : Shape := ⟨1, ![96]⟩
abbrev S96x224x224 : Shape := ⟨3, ![96, 224, 224]⟩
abbrev S_ : Shape := ⟨0, ![]⟩
abbrev S96x226x226 : Shape := ⟨3, ![96, 226, 226]⟩
abbrev S224x224 : Shape := ⟨2, ![224, 224]⟩
abbrev S9 : Shape := ⟨1, ![9]⟩
abbrev S224x224x9 : Shape := ⟨3, ![224, 224, 9]⟩
abbrev S224x224x1 : Shape := ⟨3, ![224, 224, 1]⟩
abbrev S1x1x9 : Shape := ⟨3, ![1, 1, 9]⟩
abbrev S451584 : Shape := ⟨1, ![451584]⟩
abbrev S96x51076 : Shape := ⟨2, ![96, 51076]⟩
abbrev S451584x1 : Shape := ⟨2, ![451584, 1]⟩
abbrev S96x451584 : Shape := ⟨2, ![96, 451584]⟩
abbrev S96x224x224x9 : Shape := ⟨4, ![96, 224, 224, 9]⟩
abbrev S1x224x224x9 : Shape := ⟨4, ![1, 224, 224, 9]⟩
abbrev S96x96x1x3 : Shape := ⟨4, ![96, 96, 1, 3]⟩
abbrev S96x96x3 : Shape := ⟨3, ![96, 96, 3]⟩
abbrev S96x224x224x3x3 : Shape := ⟨5, ![96, 224, 224, 3, 3]⟩
abbrev S96x1x1 : Shape := ⟨3, ![96, 1, 1]⟩

abbrev nBuf : Space → Nat
  | .hbm => 237
  | .vmem => 0
  | .smem => 0
  | _ => 0

abbrev hbmTy0_0 (i : Nat) : BufTy := match i % 128 with
  | 0 => ⟨S1x96x224x224, .f32⟩
  | 1 => ⟨S1x1x224x224, .f32⟩
  | 2 => ⟨S96x96x3x3, .f32⟩
  | 3 => ⟨S96, .f32⟩
  | 4 => ⟨S96x224x224, .f32⟩
  | 5 => ⟨S_, .i32⟩
  | 6 => ⟨S_, .f32⟩
  | 7 => ⟨S96x226x226, .f32⟩
  | 8 => ⟨S224x224, .f32⟩
  | 9 => ⟨S9, .i32⟩
  | 10 => ⟨S_, .i32⟩
  | 11 => ⟨S9, .i32⟩
  | 12 => ⟨S9, .i32⟩
  | 13 => ⟨S_, .i32⟩
  | 14 => ⟨S9, .i32⟩
  | 15 => ⟨S9, .i32⟩
  | 16 => ⟨S9, .f32⟩
  | 17 => ⟨S_, .i32⟩
  | 18 => ⟨S9, .i32⟩
  | 19 => ⟨S9, .i32⟩
  | 20 => ⟨S_, .i32⟩
  | 21 => ⟨S9, .i32⟩
  | 22 => ⟨S9, .i32⟩
  | 23 => ⟨S9, .f32⟩
  | 24 => ⟨S224x224x9, .i32⟩
  | 25 => ⟨S_, .i32⟩
  | 26 => ⟨S224x224x9, .i32⟩
  | 27 => ⟨S224x224x9, .i32⟩
  | 28 => ⟨S224x224x9, .f32⟩
  | 29 => ⟨S224x224x9, .i32⟩
  | 30 => ⟨S_, .i32⟩
  | 31 => ⟨S224x224x9, .i32⟩
  | 32 => ⟨S224x224x9, .i32⟩
  | 33 => ⟨S224x224x9, .f32⟩
  | 34 => ⟨S224x224, .f32⟩
  | 35 => ⟨S224x224x1, .f32⟩
  | 36 => ⟨S224x224, .f32⟩
  | 37 => ⟨S224x224x1, .f32⟩
  | 38 => ⟨S1x1x9, .f32⟩
  | 39 => ⟨S224x224x9, .f32⟩
  | 40 => ⟨S224x224x9, .f32⟩
  | 41 => ⟨S224x224x9, .f32⟩
  | 42 => ⟨S1x1x9, .f32⟩
  | 43 => ⟨S224x224x9, .f32⟩
  | 44 => ⟨S224x224x9, .f32⟩
  | 45 => ⟨S224x224x9, .f32⟩
  | 46 => ⟨S224x224x9, .f32⟩
  | 47 => ⟨S224x224x9, .f32⟩
  | 48 => ⟨S1x1x9, .f32⟩
  | 49 => ⟨S224x224x9, .f32⟩
  | 50 => ⟨S224x224x9, .f32⟩
  | 51 => ⟨S224x224x9, .f32⟩
  | 52 => ⟨S1x1x9, .f32⟩
  | 53 => ⟨S224x224x9, .f32⟩
  | 54 => ⟨S224x224x9, .f32⟩
  | 55 => ⟨S224x224x9, .f32⟩
  | 56 => ⟨S224x224x9, .f32⟩
  | 57 => ⟨S224x224x9, .f32⟩
  | 58 => ⟨S224x224x9, .f32⟩
  | 59 => ⟨S224x224x9, .f32⟩
  | 60 => ⟨S_, .i32⟩
  | 61 => ⟨S_, .i32⟩
  | 62 => ⟨S_, .f32⟩
  | 63 => ⟨S224x224x9, .f32⟩
  | 64 => ⟨S224x224x9, .f32⟩
  | 65 => ⟨S_, .f32⟩
  | 66 => ⟨S224x224x9, .f32⟩
  | 67 => ⟨S224x224x9, .f32⟩
  | 68 => ⟨S224x224x9, .i32⟩
  | 69 => ⟨S_, .i32⟩
  | 70 => ⟨S_, .i32⟩
  | 71 => ⟨S_, .f32⟩
  | 72 => ⟨S224x224x9, .f32⟩
  | 73 => ⟨S224x224x9, .f32⟩
  | 74 => ⟨S_, .f32⟩
  | 75 => ⟨S224x224x9, .f32⟩
  | 76 => ⟨S224x224x9, .f32⟩
  | 77 => ⟨S224x224x9, .i32⟩
  | 78 => ⟨S_, .f32⟩
  | 79 => ⟨S224x224x9, .f32⟩
  | 80 => ⟨S224x224x9, .f32⟩
  | 81 => ⟨S_, .i32⟩
  | 82 => ⟨S_, .i32⟩
  | 83 => ⟨S_, .f32⟩
  | 84 => ⟨S224x224x9, .f32⟩
  | 85 => ⟨S224x224x9, .f32⟩
  | 86 => ⟨S_, .f32⟩
  | 87 => ⟨S224x224x9, .f32⟩
  | 88 => ⟨S224x224x9, .f32⟩
  | 89 => ⟨S224x224x9, .i32⟩
  | 90 => ⟨S_, .f32⟩
  | 91 => ⟨S224x224x9, .f32⟩
  | 92 => ⟨S224x224x9, .f32⟩
  | 93 => ⟨S_, .i32⟩
  | 94 => ⟨S_, .i32⟩
  | 95 => ⟨S_, .f32⟩
  | 96 => ⟨S224x224x9, .f32⟩
  | 97 => ⟨S224x224x9, .f32⟩
  | 98 => ⟨S_, .f32⟩
  | 99 => ⟨S224x224x9, .f32⟩
  | 100 => ⟨S224x224x9, .f32⟩
  | 101 => ⟨S224x224x9, .i32⟩
  | 102 => ⟨S224x224x9, .f32⟩
  | 103 => ⟨S224x224x9, .f32⟩
  | 104 => ⟨S_, .f32⟩
  | 105 => ⟨S224x224x9, .f32⟩
  | 106 => ⟨S224x224x9, .f32⟩
  | 107 => ⟨S_, .f32⟩
  | 108 => ⟨S224x224x9, .f32⟩
  | 109 => ⟨S224x224x9, .f32⟩
  | 110 => ⟨S224x224x9, .f32⟩
  | 111 => ⟨S224x224x9, .f32⟩
  | 112 => ⟨S_, .f32⟩
  | 113 => ⟨S224x224x9, .f32⟩
  | 114 => ⟨S224x224x9, .f32⟩
  | 115 => ⟨S_, .f32⟩
  | 116 => ⟨S224x224x9, .f32⟩
  | 117 => ⟨S224x224x9, .f32⟩
  | 118 => ⟨S224x224x9, .f32⟩
  | 119 => ⟨S_, .i32⟩
  | 120 => ⟨S224x224x9, .i32⟩
  | 121 => ⟨S224x224x9, .i32⟩
  | 122 => ⟨S224x224x9, .i32⟩
  | 123 => ⟨S451584, .i32⟩
  | 124 => ⟨S96x51076, .f32⟩
  | 125 => ⟨S451584x1, .i32⟩
  | 126 => ⟨S96x451584, .f32⟩
  | 127 => ⟨S96x224x224x9, .f32⟩
  | _ => ⟨S1x96x224x224, .f32⟩

abbrev hbmTy0_1 (i : Nat) : BufTy := match i % 128 with
  | 0 => ⟨S1x224x224x9, .f32⟩
  | 1 => ⟨S96x224x224x9, .f32⟩
  | 2 => ⟨S96x224x224x9, .f32⟩
  | 3 => ⟨S224x224x9, .f32⟩
  | 4 => ⟨S224x224x9, .f32⟩
  | 5 => ⟨S_, .f32⟩
  | 6 => ⟨S224x224x9, .f32⟩
  | 7 => ⟨S224x224x9, .f32⟩
  | 8 => ⟨S_, .f32⟩
  | 9 => ⟨S224x224x9, .f32⟩
  | 10 => ⟨S224x224x9, .f32⟩
  | 11 => ⟨S224x224x9, .f32⟩
  | 12 => ⟨S224x224x9, .f32⟩
  | 13 => ⟨S_, .f32⟩
  | 14 => ⟨S224x224x9, .f32⟩
  | 15 => ⟨S224x224x9, .f32⟩
  | 16 => ⟨S_, .f32⟩
  | 17 => ⟨S224x224x9, .f32⟩
  | 18 => ⟨S224x224x9, .f32⟩
  | 19 => ⟨S224x224x9, .f32⟩
  | 20 => ⟨S_, .i32⟩
  | 21 => ⟨S224x224x9, .i32⟩
  | 22 => ⟨S224x224x9, .i32⟩
  | 23 => ⟨S224x224x9, .i32⟩
  | 24 => ⟨S451584, .i32⟩
  | 25 => ⟨S96x51076, .f32⟩
  | 26 => ⟨S451584x1, .i32⟩
  | 27 => ⟨S96x451584, .f32⟩
  | 28 => ⟨S96x224x224x9, .f32⟩
  | 29 => ⟨S1x224x224x9, .f32⟩
  | 30 => ⟨S96x224x224x9, .f32⟩
  | 31 => ⟨S96x224x224x9, .f32⟩
  | 32 => ⟨S96x224x224x9, .f32⟩
  | 33 => ⟨S224x224x9, .f32⟩
  | 34 => ⟨S224x224x9, .f32⟩
  | 35 => ⟨S_, .f32⟩
  | 36 => ⟨S224x224x9, .f32⟩
  | 37 => ⟨S224x224x9, .f32⟩
  | 38 => ⟨S_, .f32⟩
  | 39 => ⟨S224x224x9, .f32⟩
  | 40 => ⟨S224x224x9, .f32⟩
  | 41 => ⟨S224x224x9, .f32⟩
  | 42 => ⟨S224x224x9, .f32⟩
  | 43 => ⟨S_, .f32⟩
  | 44 => ⟨S224x224x9, .f32⟩
  | 45 => ⟨S224x224x9, .f32⟩
  | 46 => ⟨S_, .f32⟩
  | 47 => ⟨S224x224x9, .f32⟩
  | 48 => ⟨S224x224x9, .f32⟩
  | 49 => ⟨S224x224x9, .f32⟩
  | 50 => ⟨S_, .i32⟩
  | 51 => ⟨S224x224x9, .i32⟩
  | 52 => ⟨S224x224x9, .i32⟩
  | 53 => ⟨S224x224x9, .i32⟩
  | 54 => ⟨S451584, .i32⟩
  | 55 => ⟨S96x51076, .f32⟩
  | 56 => ⟨S451584x1, .i32⟩
  | 57 => ⟨S96x451584, .f32⟩
  | 58 => ⟨S96x224x224x9, .f32⟩
  | 59 => ⟨S1x224x224x9, .f32⟩
  | 60 => ⟨S96x224x224x9, .f32⟩
  | 61 => ⟨S96x224x224x9, .f32⟩
  | 62 => ⟨S96x224x224x9, .f32⟩
  | 63 => ⟨S224x224x9, .f32⟩
  | 64 => ⟨S224x224x9, .f32⟩
  | 65 => ⟨S_, .f32⟩
  | 66 => ⟨S224x224x9, .f32⟩
  | 67 => ⟨S224x224x9, .f32⟩
  | 68 => ⟨S_, .f32⟩
  | 69 => ⟨S224x224x9, .f32⟩
  | 70 => ⟨S224x224x9, .f32⟩
  | 71 => ⟨S224x224x9, .f32⟩
  | 72 => ⟨S224x224x9, .f32⟩
  | 73 => ⟨S_, .f32⟩
  | 74 => ⟨S224x224x9, .f32⟩
  | 75 => ⟨S224x224x9, .f32⟩
  | 76 => ⟨S_, .f32⟩
  | 77 => ⟨S224x224x9, .f32⟩
  | 78 => ⟨S224x224x9, .f32⟩
  | 79 => ⟨S224x224x9, .f32⟩
  | 80 => ⟨S_, .i32⟩
  | 81 => ⟨S224x224x9, .i32⟩
  | 82 => ⟨S224x224x9, .i32⟩
  | 83 => ⟨S224x224x9, .i32⟩
  | 84 => ⟨S451584, .i32⟩
  | 85 => ⟨S96x51076, .f32⟩
  | 86 => ⟨S451584x1, .i32⟩
  | 87 => ⟨S96x451584, .f32⟩
  | 88 => ⟨S96x224x224x9, .f32⟩
  | 89 => ⟨S1x224x224x9, .f32⟩
  | 90 => ⟨S96x224x224x9, .f32⟩
  | 91 => ⟨S96x224x224x9, .f32⟩
  | 92 => ⟨S96x224x224x9, .f32⟩
  | 93 => ⟨S96x96x1x3, .f32⟩
  | 94 => ⟨S96x96x3, .f32⟩
  | 95 => ⟨S96x96x1x3, .f32⟩
  | 96 => ⟨S96x96x3, .f32⟩
  | 97 => ⟨S96x96x3, .f32⟩
  | 98 => ⟨S96x96x3, .f32⟩
  | 99 => ⟨S96x96x1x3, .f32⟩
  | 100 => ⟨S96x96x1x3, .f32⟩
  | 101 => ⟨S96x96x1x3, .f32⟩
  | 102 => ⟨S96x96x3x3, .f32⟩
  | 103 => ⟨S96x224x224x3x3, .f32⟩
  | 104 => ⟨S96x224x224x3x3, .f32⟩
  | 105 => ⟨S96x224x224, .f32⟩
  | 106 => ⟨S96x1x1, .f32⟩
  | 107 => ⟨S96x224x224, .f32⟩
  | 108 => ⟨S96x224x224, .f32⟩
  | _ => ⟨S1x96x224x224, .f32⟩

abbrev hbmTy (i : Nat) : BufTy := match i / 128 with
  | 0 => hbmTy0_0 i
  | 1 => hbmTy0_1 i
  | _ => ⟨S1x96x224x224, .f32⟩

abbrev bufTy : (tb : Table) → Fin (tcTables nBuf tb) → BufTy
  | .hbm, ⟨i, _⟩ => hbmTy i
  | _, _ => ⟨S1x96x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_c_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_c_6 : Ref sig .tc := ⟨.hbm, 60, rfl⟩
abbrev main_c_7 : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_call1_v3 : Ref sig .tc := ⟨.hbm, 65, rfl⟩
abbrev main_call1_v4 : Ref sig .tc := ⟨.hbm, 66, rfl⟩
abbrev main_v48 : Ref sig .tc := ⟨.hbm, 67, rfl⟩
abbrev main_v49 : Ref sig .tc := ⟨.hbm, 68, rfl⟩
abbrev main_c_8 : Ref sig .tc := ⟨.hbm, 69, rfl⟩
abbrev main_c_9 : Ref sig .tc := ⟨.hbm, 70, rfl⟩
abbrev main_call2_v0 : Ref sig .tc := ⟨.hbm, 71, rfl⟩
abbrev main_call2_v1 : Ref sig .tc := ⟨.hbm, 72, rfl⟩
abbrev main_call2_v2 : Ref sig .tc := ⟨.hbm, 73, rfl⟩
abbrev main_call2_v3 : Ref sig .tc := ⟨.hbm, 74, rfl⟩
abbrev main_call2_v4 : Ref sig .tc := ⟨.hbm, 75, rfl⟩
abbrev main_v50 : Ref sig .tc := ⟨.hbm, 76, rfl⟩
abbrev main_v51 : Ref sig .tc := ⟨.hbm, 77, rfl⟩
abbrev main_cst : Ref sig .tc := ⟨.hbm, 78, rfl⟩
abbrev main_v52 : Ref sig .tc := ⟨.hbm, 79, rfl⟩
abbrev main_v53 : Ref sig .tc := ⟨.hbm, 80, rfl⟩
abbrev main_c_10 : Ref sig .tc := ⟨.hbm, 81, rfl⟩
abbrev main_c_11 : Ref sig .tc := ⟨.hbm, 82, rfl⟩
abbrev main_call3_v0 : Ref sig .tc := ⟨.hbm, 83, rfl⟩
abbrev main_call3_v1 : Ref sig .tc := ⟨.hbm, 84, rfl⟩
abbrev main_call3_v2 : Ref sig .tc := ⟨.hbm, 85, rfl⟩
abbrev main_call3_v3 : Ref sig .tc := ⟨.hbm, 86, rfl⟩
abbrev main_call3_v4 : Ref sig .tc := ⟨.hbm, 87, rfl⟩
abbrev main_v54 : Ref sig .tc := ⟨.hbm, 88, rfl⟩
abbrev main_v55 : Ref sig .tc := ⟨.hbm, 89, rfl⟩
abbrev main_cst_12 : Ref sig .tc := ⟨.hbm, 90, rfl⟩
abbrev main_v56 : Ref sig .tc := ⟨.hbm, 91, rfl⟩
abbrev main_v57 : Ref sig .tc := ⟨.hbm, 92, rfl⟩
abbrev main_c_13 : Ref sig .tc := ⟨.hbm, 93, rfl⟩
abbrev main_c_14 : Ref sig .tc := ⟨.hbm, 94, rfl⟩
abbrev main_call4_v0 : Ref sig .tc := ⟨.hbm, 95, rfl⟩
abbrev main_call4_v1 : Ref sig .tc := ⟨.hbm, 96, rfl⟩
abbrev main_call4_v2 : Ref sig .tc := ⟨.hbm, 97, rfl⟩
abbrev main_call4_v3 : Ref sig .tc := ⟨.hbm, 98, rfl⟩
abbrev main_call4_v4 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_cst_15 : Ref sig .tc := ⟨.hbm, 104, rfl⟩
abbrev main_v62 : Ref sig .tc := ⟨.hbm, 105, rfl⟩
abbrev main_v63 : Ref sig .tc := ⟨.hbm, 106, rfl⟩
abbrev main_cst_16 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_cst_17 : Ref sig .tc := ⟨.hbm, 112, rfl⟩
abbrev main_v68 : Ref sig .tc := ⟨.hbm, 113, rfl⟩
abbrev main_v69 : Ref sig .tc := ⟨.hbm, 114, rfl⟩
abbrev main_cst_18 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_c_19 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_call5_v0 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_cst_20 : Ref sig .tc := ⟨.hbm, 133, rfl⟩
abbrev main_v85 : Ref sig .tc := ⟨.hbm, 134, rfl⟩
abbrev main_v86 : Ref sig .tc := ⟨.hbm, 135, rfl⟩
abbrev main_cst_21 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_cst_22 : Ref sig .tc := ⟨.hbm, 141, rfl⟩
abbrev main_v91 : Ref sig .tc := ⟨.hbm, 142, rfl⟩
abbrev main_v92 : Ref sig .tc := ⟨.hbm, 143, rfl⟩
abbrev main_cst_23 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_c_24 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_call6_v0 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_cst_25 : Ref sig .tc := ⟨.hbm, 163, rfl⟩
abbrev main_v109 : Ref sig .tc := ⟨.hbm, 164, rfl⟩
abbrev main_v110 : Ref sig .tc := ⟨.hbm, 165, rfl⟩
abbrev main_cst_26 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_cst_27 : Ref sig .tc := ⟨.hbm, 171, rfl⟩
abbrev main_v115 : Ref sig .tc := ⟨.hbm, 172, rfl⟩
abbrev main_v116 : Ref sig .tc := ⟨.hbm, 173, rfl⟩
abbrev main_cst_28 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩
abbrev main_c_29 : Ref sig .tc := ⟨.hbm, 178, rfl⟩
abbrev main_v120 : Ref sig .tc := ⟨.hbm, 179, rfl⟩
abbrev main_v121 : Ref sig .tc := ⟨.hbm, 180, rfl⟩
abbrev main_v122 : Ref sig .tc := ⟨.hbm, 181, rfl⟩
abbrev main_v123 : Ref sig .tc := ⟨.hbm, 182, rfl⟩
abbrev main_v124 : Ref sig .tc := ⟨.hbm, 183, rfl⟩
abbrev main_call7_v0 : Ref sig .tc := ⟨.hbm, 184, rfl⟩
abbrev main_v125 : Ref sig .tc := ⟨.hbm, 185, rfl⟩
abbrev main_v126 : Ref sig .tc := ⟨.hbm, 186, rfl⟩
abbrev main_v127 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_v131 : Ref sig .tc := ⟨.hbm, 191, rfl⟩
abbrev main_v132 : Ref sig .tc := ⟨.hbm, 192, rfl⟩
abbrev main_cst_30 : Ref sig .tc := ⟨.hbm, 193, rfl⟩
abbrev main_v133 : Ref sig .tc := ⟨.hbm, 194, rfl⟩
abbrev main_v134 : Ref sig .tc := ⟨.hbm, 195, rfl⟩
abbrev main_cst_31 : Ref sig .tc := ⟨.hbm, 196, rfl⟩
abbrev main_v135 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev main_cst_32 : Ref sig .tc := ⟨.hbm, 201, rfl⟩
abbrev main_v139 : Ref sig .tc := ⟨.hbm, 202, rfl⟩
abbrev main_v140 : Ref sig .tc := ⟨.hbm, 203, rfl⟩
abbrev main_cst_33 : Ref sig .tc := ⟨.hbm, 204, rfl⟩
abbrev main_v141 : Ref sig .tc := ⟨.hbm, 205, rfl⟩
abbrev main_v142 : Ref sig .tc := ⟨.hbm, 206, rfl⟩
abbrev main_v143 : Ref sig .tc := ⟨.hbm, 207, rfl⟩
abbrev main_c_34 : Ref sig .tc := ⟨.hbm, 208, rfl⟩
abbrev main_v144 : Ref sig .tc := ⟨.hbm, 209, rfl⟩
abbrev main_v145 : Ref sig .tc := ⟨.hbm, 210, rfl⟩
abbrev main_v146 : Ref sig .tc := ⟨.hbm, 211, rfl⟩
abbrev main_v147 : Ref sig .tc := ⟨.hbm, 212, rfl⟩
abbrev main_v148 : Ref sig .tc := ⟨.hbm, 213, rfl⟩
abbrev main_call8_v0 : Ref sig .tc := ⟨.hbm, 214, rfl⟩
abbrev main_v149 : Ref sig .tc := ⟨.hbm, 215, rfl⟩
abbrev main_v150 : Ref sig .tc := ⟨.hbm, 216, rfl⟩
abbrev main_v151 : Ref sig .tc := ⟨.hbm, 217, rfl⟩
abbrev main_v152 : Ref sig .tc := ⟨.hbm, 218, rfl⟩
abbrev main_v153 : Ref sig .tc := ⟨.hbm, 219, rfl⟩
abbrev main_v154 : Ref sig .tc := ⟨.hbm, 220, rfl⟩
abbrev main_v155 : Ref sig .tc := ⟨.hbm, 221, rfl⟩
abbrev main_v156 : Ref sig .tc := ⟨.hbm, 222, rfl⟩
abbrev main_v157 : Ref sig .tc := ⟨.hbm, 223, rfl⟩
abbrev main_v158 : Ref sig .tc := ⟨.hbm, 224, rfl⟩
abbrev main_v159 : Ref sig .tc := ⟨.hbm, 225, rfl⟩
abbrev main_v160 : Ref sig .tc := ⟨.hbm, 226, rfl⟩
abbrev main_v161 : Ref sig .tc := ⟨.hbm, 227, rfl⟩
abbrev main_v162 : Ref sig .tc := ⟨.hbm, 228, rfl⟩
abbrev main_v163 : Ref sig .tc := ⟨.hbm, 229, rfl⟩
abbrev main_v164 : Ref sig .tc := ⟨.hbm, 230, rfl⟩
abbrev main_v165 : Ref sig .tc := ⟨.hbm, 231, rfl⟩
abbrev main_v166 : Ref sig .tc := ⟨.hbm, 232, rfl⟩
abbrev main_v167 : Ref sig .tc := ⟨.hbm, 233, rfl⟩
abbrev main_v168 : Ref sig .tc := ⟨.hbm, 234, rfl⟩
abbrev main_v169 : Ref sig .tc := ⟨.hbm, 235, rfl⟩
abbrev main_v170 : Ref sig .tc := ⟨.hbm, 236, rfl⟩

abbrev nD : Nat := 1
abbrev τ : Topo := Topo.v7x

variable {F : FTy → Type} [FloatOps F]
-- ==== Proof.Taps.lean ====
/- WHAT THE KERNEL'S BODY STORES, in one vocabulary for all rows and all taps. The printed body is unrolled over
   8 rows and 9 taps; here the coefficient vectors of a grid point are named once, a tap is a list of
   (row shift, column shift, coefficient) terms, and the pieces the run finds are shown to be these, by
   unfolding the printed payloads. -/
module

public import proofs.«01_k».proof.Proof.Gen.KernelIdeal.Frame
public import Idealize.ShloMosaic.Lib.Pipeline.Value

@[expose] public section

noncomputable section

namespace Cert.KernelIdeal.Taps

open Cert.KernelIdeal Cert.KernelIdeal.Gen Idealize.ShloMosaic Idealize.ShloMosaic.TcCoe

variable {F : FTy → Type} [FloatOps F]

/-! ## The coefficient vectors of one grid point -/

/-- A vector filled with the float of one bit pattern. -/
def lit (w : BitVec 32) : FVec F S8x224 .f32 := broadcast S8x224 (Scalar.ofBits .f32 w)

/-- The rotated position `b + d s`. -/
def pos (b s : FVec F S8x224 .f32) (d : BitVec 32) : FVec F S8x224 .f32 := addf b (mulf (lit d) s)

/-- The lower corner's coordinate: the floor, clipped to the padded image. -/
def lo (p : FVec F S8x224 .f32) : FVec F S8x224 .f32 :=
  minimumf (lit 0x43610000#32) (maximumf (lit 0x00000000#32) (floor p))

/-- The upper corner's coordinate: the floor plus one, clipped. -/
def hi (p : FVec F S8x224 .f32) : FVec F S8x224 .f32 :=
  minimumf (lit 0x43610000#32) (maximumf (lit 0x00000000#32) (addf (floor p) (lit 0x3F800000#32)))

/-- The lower corner's weight along one axis. -/
def wlo (p : FVec F S8x224 .f32) : FVec F S8x224 .f32 := addf (lit 0x3F800000#32) (subf (lo p) p)

/-- The upper corner's weight along one axis. -/
def whi (p : FVec F S8x224 .f32) : FVec F S8x224 .f32 := subf (lit 0x3F800000#32) (subf (hi p) p)

/-- The weight `w` where the corner `q` is `e` away from the base `b`, else zero. -/
def pick (q b w : FVec F S8x224 .f32) (e : BitVec 32) : FVec F S8x224 .f32 :=
  select (cmpf .oeq (subf q b) (lit e)) w (lit 0x00000000#32)

/-- The lower corner's share of shift `e`. -/
def cl (p b : FVec F S8x224 .f32) (e : BitVec 32) : FVec F S8x224 .f32 := pick (lo p) b (wlo p) e

/-- The upper corner's share of shift `e`. -/
def cu (p b : FVec F S8x224 .f32) (e : BitVec 32) : FVec F S8x224 .f32 := pick (hi p) b (whi p) e

/-- Both corners' shares of shift `e`. -/
def cb (p b : FVec F S8x224 .f32) (e : BitVec 32) : FVec F S8x224 .f32 := addf (cl p b e) (cu p b e)

/-- The coefficients in the stored format. -/
def toB (v : FVec F S8x224 .f32) : FVec F S8x224 .bf16 := truncf .bf16 v bitsLt_bf16_f32

/-- The coefficients along x (each with its shift plus 3) at position `p` over base `b`, window row above. -/
def xm (b p : FVec F S8x224 .f32) : List (Fin 8 × FVec F S8x224 .bf16) :=
  [(⟨1, by decide⟩, toB (cl p b 0xC0000000#32)), (⟨2, by decide⟩, toB (cb p b 0xBF800000#32)),
   (⟨3, by decide⟩, toB (cu p b 0x00000000#32))]

/-- The coefficients along x, window row below. -/
def xp (b p : FVec F S8x224 .f32) : List (Fin 8 × FVec F S8x224 .bf16) :=
  [(⟨4, by decide⟩, toB (addf (wlo p) (cu p b 0x3F800000#32))), (⟨5, by decide⟩, toB (cu p b 0x40000000#32))]

/-- The coefficients along y, window column to the left. -/
def ym (b p : FVec F S8x224 .f32) : List (Fin 7 × FVec F S8x224 .bf16) :=
  [(⟨2, by decide⟩, toB (cl p b 0xBF800000#32)), (⟨3, by decide⟩, toB (cb p b 0x00000000#32)),
   (⟨4, by decide⟩, toB (cu p b 0x3F800000#32))]

/-- The coefficients along y, window column to the right. -/
def yp (b p : FVec F S8x224 .f32) : List (Fin 7 × FVec F S8x224 .bf16) :=
  [(⟨2, by decide⟩, toB (cl p b 0xBF800000#32)), (⟨3, by decide⟩, toB (cb p b 0x00000000#32)),
   (⟨4, by decide⟩, toB (cb p b 0x3F800000#32)), (⟨5, by decide⟩, toB (cu p b 0x40000000#32))]

/-- The terms of a tap with a shift along both axes. -/
def cross (X : List (Fin 8 × FVec F S8x224 .bf16)) (Y : List (Fin 7 × FVec F S8x224 .bf16)) :
    List (Fin 8 × Fin 7 × FVec F S8x224 .bf16) :=
  X.flatMap fun u => Y.map fun v => (u.1, v.1, mulf u.2 v.2)

/-- The terms of a tap with a shift along x only. -/
def onX (X : List (Fin 8 × FVec F S8x224 .bf16)) : List (Fin 8 × Fin 7 × FVec F S8x224 .bf16) :=
  X.map fun u => (u.1, ⟨3, by decide⟩, u.2)

/-- The terms of a tap with a shift along y only. -/
def onY (Y : List (Fin 7 × FVec F S8x224 .bf16)) : List (Fin 8 × Fin 7 × FVec F S8x224 .bf16) :=
  Y.map fun v => (⟨3, by decide⟩, v.1, v.2)

/-- The terms of tap `k` at a grid point with angles `v1` (tap 4 has none: it is the image itself). -/
def terms (g : grid0.Coords) (v1 : Vec F S8x224 .f32) (k : ℕ) : List (Fin 8 × Fin 7 × FVec F S8x224 .bf16) :=
  let bx := k0_pay11 g
  let sx := k0_pay9 v1
  let sy := k0_pay10 v1
  let X0 := xm bx (pos bx sx 0xBF800000#32)
  let X1 := xp bx (pos bx sx 0x3F800000#32)
  let Y0 := ym k0_pay12 (pos k0_pay12 sy 0xBF800000#32)
  let Y1 := yp k0_pay12 (pos k0_pay12 sy 0x3F800000#32)
  match k with
  | 0 => cross X0 Y0
  | 1 => onX X0
  | 2 => cross X0 Y1
  | 3 => onY Y0
  | 4 => []
  | 5 => onY Y1
  | 6 => cross X1 Y0
  | 7 => onX X1
  | _ => cross X1 Y1

/-! ## The image rows a tap reads -/

theorem inb_slab {R q : ℕ} (hR : R < 8) (hq : q < 7) :
    ∀ a, (![R, 0, q] : Fin 3 → ℕ) a + S1x96x224.size a ≤ S8x96x230.size a := by
  intro a
  fin_cases a
  · show R + 1 ≤ 8; omega
  · show 0 + 96 ≤ 96; omega
  · show q + 224 ≤ 230; omega

/-- Image row `R` of the two staged blocks, its columns from `q` on. -/
def slab (arg2 : Memref sig .tc .vmem S8x96x230 .bf16) (harg2 : arg2.IsWhole) (arg3 : Memref sig .tc .vmem S8x96x230 .bf16)
    (harg3 : arg3.IsWhole) (x1 x2 : Vec F S8x96x230 .bf16) (i : Fin 8) (di : Fin 8) (dj : Fin 7) : Vec F S1x96x224 .bf16 :=
  if h : i.val + di.val < 8 then
    View.readAt (Elt F) arg2.view (Rect.unit (s := S8x96x230) ![i.val + di.val, 0, dj.val] S1x96x224.size (inb_slab h dj.isLt)).toLoadRect (harg2.unread x1)
  else
    View.readAt (Elt F) arg3.view (Rect.unit (s := S8x96x230) ![i.val + di.val - 8, 0, dj.val] S1x96x224.size
      (inb_slab (by have := i.isLt; have := di.isLt; omega) dj.isLt)).toLoadRect (harg3.unread x2)

theorem slices_row (i : Fin 8) : S8x224.Slices ![i.val, 0] S1x224 :=
  ⟨rfl, fun a => by
    have := i.isLt
    fin_cases a
    · show i.val + 1 ≤ 8; omega
    · show 0 + 224 ≤ 224; omega⟩

/-- One term: row `i` of a coefficient vector times an image row. -/
def term (i : Fin 8) (cf : FVec F S8x224 .bf16) (s : Vec F S1x96x224 .bf16) : FVec F S96x224 .bf16 :=
  mulf (broadcastTo S96x224 (extractStridedSlice S1x224 ![i.val, 0] cf (slices_row i)) broadcasts_S1x224_S96x224)
    (shapeCast S96x224 s shapeCasts_S1x96x224_S96x224)

/-- The terms added up from the left; without any, the image row itself. -/
def addUp (X : Fin 8 → Fin 7 → Vec F S1x96x224 .bf16) (i : Fin 8) : List (Fin 8 × Fin 7 × FVec F S8x224 .bf16) → FVec F S96x224 .bf16
  | [] => shapeCast S96x224 (X ⟨3, by decide⟩ ⟨3, by decide⟩) shapeCasts_S1x96x224_S96x224
  | u :: L => L.foldl (fun acc v => addf acc (term i v.2.2 (X v.1 v.2.1))) (term i u.2.2 (X u.1 u.2.1))

theorem inb_piece (i : Fin 8) (k : Fin 9) :
    ∀ a, (![i.val, 96 * k.val, 0] : Fin 3 → ℕ) a + S1x96x224.size a ≤ S8x864x224.size a := by
  intro a
  have := i.isLt; have := k.isLt
  fin_cases a
  · show i.val + 1 ≤ 8; omega
  · show 96 * k.val + 96 ≤ 864; omega
  · show 0 + 224 ≤ 224; omega

section
variable (g : grid0.Coords) (arg1 : Memref sig .tc .vmem S8x224 .f32) (harg1 : arg1.IsWhole) (arg2 : Memref sig .tc .vmem S8x96x230 .bf16) (harg2 : arg2.IsWhole) (arg3 : Memref sig .tc .vmem S8x96x230 .bf16) (harg3 : arg3.IsWhole)
  (x0 : Vec F S8x224 .f32) (x1 : Vec F S8x96x230 .bf16) (x2 : Vec F S8x96x230 .bf16)

/-- The angles, as the body loads them. -/
def angles : Vec F S8x224 .f32 :=
  View.readAt (Elt F) arg1.view (Rect.unit (s := S8x224) ![0, 0] S8x224.size inb_S8x224_S8x224_0_0).toLoadRect (harg1.unread x0)

/-- Tap `k` of row `i`. -/
def tap (i : Fin 8) (k : ℕ) : FVec F S96x224 .bf16 :=
  addUp (slab arg2 harg2 arg3 harg3 x1 x2 i) i (terms g (angles arg1 harg1 x0) k)

/-- The store of tap `k` of row `i`. -/
def piece (i : Fin 8) (k : Fin 9) : View.Piece (Elt F) S8x864x224 .bf16 :=
  ⟨Rect.unit (s := S8x864x224) ![i.val, 96 * k.val, 0] S1x96x224.size (inb_piece i k),
    shapeCast S1x96x224 (tap g arg1 harg1 arg2 harg2 arg3 harg3 x0 x1 x2 i k.val) shapeCasts_S96x224_S1x96x224⟩

/-- The stores of row `i`, last first, over the earlier ones. -/
def rowOver (i : Fin 8) (L : List (View.Piece (Elt F) S8x864x224 .bf16)) : List (View.Piece (Elt F) S8x864x224 .bf16) :=
  let p := piece g arg1 harg1 arg2 harg2 arg3 harg3 x0 x1 x2 i
  p ⟨8, by decide⟩ :: p ⟨7, by decide⟩ :: p ⟨6, by decide⟩ :: p ⟨5, by decide⟩ :: p ⟨4, by decide⟩ :: p ⟨3, by decide⟩
    :: p ⟨2, by decide⟩ :: p ⟨1, by decide⟩ :: p ⟨0, by decide⟩ :: L

end

end Cert.KernelIdeal.Taps

end

end
-- ==== Proof.Rows.lean ====
/- THE PIECES OF THE RUN, row by row: the scratch of samples after each row's nine stores, and the output's eight
   stores, each the product of the weights with the row of samples read back. -/
module

public import proofs.«01_k».proof.Proof.Taps

@[expose] public section

noncomputable section

namespace Cert.KernelIdeal.Taps

open Cert.KernelIdeal Cert.KernelIdeal.Gen Idealize.ShloMosaic Idealize.ShloMosaic.TcCoe

variable {F : FTy → Type} [FloatOps F]

section
variable (g : grid0.Coords) (arg1 : Memref sig .tc .vmem S8x224 .f32) (harg1 : arg1.IsWhole) (arg2 : Memref sig .tc .vmem S8x96x230 .bf16) (harg2 : arg2.IsWhole) (arg3 : Memref sig .tc .vmem S8x96x230 .bf16) (harg3 : arg3.IsWhole)
  (x0 : Vec F S8x224 .f32) (x1 : Vec F S8x96x230 .bf16) (x2 : Vec F S8x96x230 .bf16)

/-- The stores of the first `n` rows, last first. -/
def stores : (n : ℕ) → n ≤ 8 → List (View.Piece (Elt F) S8x864x224 .bf16)
  | 0, _ => []
  | n + 1, h => rowOver g arg1 harg1 arg2 harg2 arg3 harg3 x0 x1 x2 ⟨n, h⟩ (stores n (Nat.le_of_succ_le h))

variable (c : Dev nD)

theorem stores1 : kernelRun0_A.sl.HS0_9 c g arg1 harg1 arg2 harg2 x0 x1
    = stores g arg1 harg1 arg2 harg2 arg3 harg3 x0 x1 x2 1 (by decide) := rfl

theorem stores2 : kernelRun0_A.sl.HS0_18 c g arg1 harg1 arg2 harg2 x0 x1
    = stores g arg1 harg1 arg2 harg2 arg3 harg3 x0 x1 x2 2 (by decide) :=
  Eq.trans rfl (congrArg (rowOver g arg1 harg1 arg2 harg2 arg3 harg3 x0 x1 x2 ⟨1, by decide⟩)
    (stores1 g arg1 harg1 arg2 harg2 arg3 harg3 x0 x1 x2 c))

theorem stores3 : kernelRun0_A.sl.HS0_27 c g arg1 harg1 arg2 harg2 x0 x1
    = stores g arg1 harg1 arg2 harg2 arg3 harg3 x0 x1 x2 3 (by decide) :=
  Eq.trans rfl (congrArg (rowOver g arg1 harg1 arg2 harg2 arg3 harg3 x0 x1 x2 ⟨2, by decide⟩)
    (stores2 g arg1 harg1 arg2 harg2 arg3 harg3 x0 x1 x2 c))

theorem stores4 : kernelRun0_A.sl.HS0_36 c g arg1 harg1 arg2 harg2 arg3 harg3 x0 x1 x2
    = stores g arg1 harg1 arg2 harg2 arg3 harg3 x0 x1 x2 4 (by decide) :=
  Eq.trans rfl (congrArg (rowOver g arg1 harg1 arg2 harg2 arg3 harg3 x0 x1 x2 ⟨3, by decide⟩)
    (stores3 g arg1 harg1 arg2 harg2 arg3 harg3 x0 x1 x2 c))

theorem stores5 : kernelRun0_A.sl.HS0_45 c g arg1 harg1 arg2 harg2 arg3 harg3 x0 x1 x2
    = stores g arg1 harg1 arg2 harg2 arg3 harg3 x0 x1 x2 5 (by decide) :=
  Eq.trans rfl (congrArg (rowOver g arg1 harg1 arg2 harg2 arg3 harg3 x0 x1 x2 ⟨4, by decide⟩)
    (stores4 g arg1 harg1 arg2 harg2 arg3 harg3 x0 x1 x2 c))

theorem stores6 : kernelRun0_A.sl.HS0_54 c g arg1 harg1 arg2 harg2 arg3 harg3 x0 x1 x2
    = stores g arg1 harg1 arg2 harg2 arg3 harg3 x0 x1 x2 6 (by decide) :=
  Eq.trans rfl (congrArg (rowOver g arg1 harg1 arg2 harg2 arg3 harg3 x0 x1 x2 ⟨5, by decide⟩)
    (stores5 g arg1 harg1 arg2 harg2 arg3 harg3 x0 x1 x2 c))

theorem stores7 : kernelRun0_A.sl.HS0_63 c g arg1 harg1 arg2 harg2 arg3 harg3 x0 x1 x2
    = stores g arg1 harg1 arg2 harg2 arg3 harg3 x0 x1 x2 7 (by decide) :=
  Eq.trans rfl (congrArg (rowOver g arg1 harg1 arg2 harg2 arg3 harg3 x0 x1 x2 ⟨6, by decide⟩)
    (stores6 g arg1 harg1 arg2 harg2 arg3 harg3 x0 x1 x2 c))

theorem stores8 : kernelRun0_A.sl.HS0_72 c g arg1 harg1 arg2 harg2 arg3 harg3 x0 x1 x2
    = stores g arg1 harg1 arg2 harg2 arg3 harg3 x0 x1 x2 8 (by decide) :=
  Eq.trans rfl (congrArg (rowOver g arg1 harg1 arg2 harg2 arg3 harg3 x0 x1 x2 ⟨7, by decide⟩)
    (stores7 g arg1 harg1 arg2 harg2 arg3 harg3 x0 x1 x2 c))

theorem inb_row (i : Fin 8) : ∀ a, (![i.val, 0, 0] : Fin 3 → ℕ) a + S1x864x224.size a ≤ S8x864x224.size a := by
  intro a
  have := i.isLt
  fin_cases a
  · show i.val + 1 ≤ 8; omega
  · show 0 + 864 ≤ 864; omega
  · show 0 + 224 ≤ 224; omega

theorem inb_out (i : Fin 8) : ∀ a, (![0, i.val, 0] : Fin 3 → ℕ) a + S96x1x224.size a ≤ S96x8x224.size a := by
  intro a
  have := i.isLt
  fin_cases a
  · show 0 + 96 ≤ 96; omega
  · show i.val + 1 ≤ 8; omega
  · show 0 + 224 ≤ 224; omega

/-- Row `i` of the samples, read back after the stores `L`. -/
def sampleRow (arg7 : Memref sig .tc .vmem S8x864x224 .bf16) (i : Fin 8) (L : List (View.Piece (Elt F) S8x864x224 .bf16)) :
    Vec F S1x864x224 .bf16 :=
  arg7.view.readCov L (Rect.unit (s := S8x864x224) ![i.val, 0, 0] S1x864x224.size (inb_row i)).toLoadRect

/-- One output row: the weights times the samples, plus the bias. -/
def outRow (w : Vec F S96x864 .bf16) (b : Vec F S96x1 .f32) (s : Vec F S1x864x224 .bf16) : FVec F S96x1x224 .f32 :=
  shapeCast S96x1x224
    (addf (matmul (φ₁ := .bf16) (φ₂ := .bf16) dot_S96x864_S864x224_S96x224_1_0_0_1_n_n none
        (shapeCast S96x864 w shapeCasts_S96x864_S96x864 : FVec F S96x864 .bf16)
        (shapeCast S864x224 s shapeCasts_S1x864x224_S864x224 : FVec F S864x224 .bf16)
        (constant S96x224 .f32 0x00000000#32))
      (broadcastTo S96x224 (shapeCast S96x1 b shapeCasts_S96x1_S96x1) broadcasts_S96x1_S96x224))
    shapeCasts_S96x224_S96x1x224

variable (arg4 : Memref sig .tc .vmem S96x864 .bf16) (harg4 : arg4.IsWhole) (arg5 : Memref sig .tc .vmem S96x1 .f32) (harg5 : arg5.IsWhole)
  (arg6 : Memref sig .tc .vmem S96x8x224 .f32) (harg6 : arg6.IsWhole) (arg7 : Memref sig .tc .vmem S8x864x224 .bf16) (harg7 : arg7.IsWhole)
  (x3 : Vec F S96x864 .bf16) (x4 : Vec F S96x1 .f32)

/-- The store of output row `i`, the samples read back after the stores `L`. -/
def outPiece (i : Fin 8) (L : List (View.Piece (Elt F) S8x864x224 .bf16)) : View.Piece (Elt F) S96x8x224 .f32 :=
  ⟨Rect.unit (s := S96x8x224) ![0, i.val, 0] S96x1x224.size (inb_out i),
    outRow
      (View.readAt (Elt F) arg4.view (Rect.unit (s := S96x864) ![0, 0] S96x864.size inb_S96x864_S96x864_0_0).toLoadRect (harg4.unread x3))
      (View.readAt (Elt F) arg5.view (Rect.unit (s := S96x1) ![0, 0] S96x1.size inb_S96x1_S96x1_0_0).toLoadRect (harg5.unread x4))
      (sampleRow arg7 i L)⟩

/-- The output's stores, last first. -/
def outPieces : List (View.Piece (Elt F) S96x8x224 .f32) :=
  let p := fun i : Fin 8 => outPiece arg4 harg4 arg5 harg5 arg7 x3 x4 i
    (stores g arg1 harg1 arg2 harg2 arg3 harg3 x0 x1 x2 (i.val + 1) i.isLt)
  [p ⟨7, by decide⟩, p ⟨6, by decide⟩, p ⟨5, by decide⟩, p ⟨4, by decide⟩, p ⟨3, by decide⟩, p ⟨2, by decide⟩,
    p ⟨1, by decide⟩, p ⟨0, by decide⟩]

/-- The pieces the run finds for the output are these. -/
theorem run_pieces : (kernelRun0_A c g arg1 harg1 arg2 harg2 arg3 harg3 arg4 harg4 arg5 harg5 arg6 harg6 arg7 harg7 x0 x1 x2 x3 x4).1
    = outPieces g arg1 harg1 arg2 harg2 arg3 harg3 x0 x1 x2 arg4 harg4 arg5 harg5 arg7 x3 x4 := by
  have e : (kernelRun0_A c g arg1 harg1 arg2 harg2 arg3 harg3 arg4 harg4 arg5 harg5 arg6 harg6 arg7 harg7 x0 x1 x2 x3 x4).1
      = [outPiece arg4 harg4 arg5 harg5 arg7 x3 x4 ⟨7, by decide⟩ (kernelRun0_A.sl.HS0_72 c g arg1 harg1 arg2 harg2 arg3 harg3 x0 x1 x2),
         outPiece arg4 harg4 arg5 harg5 arg7 x3 x4 ⟨6, by decide⟩ (kernelRun0_A.sl.HS0_63 c g arg1 harg1 arg2 harg2 arg3 harg3 x0 x1 x2),
         outPiece arg4 harg4 arg5 harg5 arg7 x3 x4 ⟨5, by decide⟩ (kernelRun0_A.sl.HS0_54 c g arg1 harg1 arg2 harg2 arg3 harg3 x0 x1 x2),
         outPiece arg4 harg4 arg5 harg5 arg7 x3 x4 ⟨4, by decide⟩ (kernelRun0_A.sl.HS0_45 c g arg1 harg1 arg2 harg2 arg3 harg3 x0 x1 x2),
         outPiece arg4 harg4 arg5 harg5 arg7 x3 x4 ⟨3, by decide⟩ (kernelRun0_A.sl.HS0_36 c g arg1 harg1 arg2 harg2 arg3 harg3 x0 x1 x2),
         outPiece arg4 harg4 arg5 harg5 arg7 x3 x4 ⟨2, by decide⟩ (kernelRun0_A.sl.HS0_27 c g arg1 harg1 arg2 harg2 x0 x1),
         outPiece arg4 harg4 arg5 harg5 arg7 x3 x4 ⟨1, by decide⟩ (kernelRun0_A.sl.HS0_18 c g arg1 harg1 arg2 harg2 x0 x1),
         outPiece arg4 harg4 arg5 harg5 arg7 x3 x4 ⟨0, by decide⟩ (kernelRun0_A.sl.HS0_9 c g arg1 harg1 arg2 harg2 x0 x1)] := rfl
  rw [stores8 g arg1 harg1 arg2 harg2 arg3 harg3 x0 x1 x2 c, stores7 g arg1 harg1 arg2 harg2 arg3 harg3 x0 x1 x2 c,
    stores6 g arg1 harg1 arg2 harg2 arg3 harg3 x0 x1 x2 c, stores5 g arg1 harg1 arg2 harg2 arg3 harg3 x0 x1 x2 c,
    stores4 g arg1 harg1 arg2 harg2 arg3 harg3 x0 x1 x2 c, stores3 g arg1 harg1 arg2 harg2 arg3 harg3 x0 x1 x2 c,
    stores2 g arg1 harg1 arg2 harg2 arg3 harg3 x0 x1 x2 c, stores1 g arg1 harg1 arg2 harg2 arg3 harg3 x0 x1 x2 c] at e
  exact e

end

end Cert.KernelIdeal.Taps

end

end
-- ==== Proof.Axis.lean ====
/- ONE AXIS OF THE BILINEAR SAMPLING. A rotated position `p` over the base `n + 1` has a lower and an upper corner
   (its floor and its floor plus one, clipped to the padded image) and a weight for each. The kernel spreads these two
   weights over the few shifts the corners can have for an angle between 0 and 1; this file proves that its sum over
   those shifts is the sum over the two corners. -/
module

public import Idealize.ShloMosaic.PureOps
public import Idealize.ShloMosaic.Lib.ValueIdx

@[expose] public section

noncomputable section

namespace Cert.Axis

open Idealize.ShloMosaic

/-! ## The literals -/

theorem lit_225 : Ideal.ofBits .f32 0x43610000#32 = ((225 : ℝ) : EReal) := by
  simp [Ideal.ofBits, Ideal.ieee, -EReal.coe_mul]; norm_num
theorem lit_0 : Ideal.ofBits .f32 0x00000000#32 = ((0 : ℝ) : EReal) := by
  simp [Ideal.ofBits, Ideal.ieee, -EReal.coe_mul]
theorem lit_1 : Ideal.ofBits .f32 0x3F800000#32 = ((1 : ℝ) : EReal) := by
  simp [Ideal.ofBits, Ideal.ieee, -EReal.coe_mul]; norm_num
theorem lit_2 : Ideal.ofBits .f32 0x40000000#32 = ((2 : ℝ) : EReal) := by
  simp [Ideal.ofBits, Ideal.ieee, -EReal.coe_mul]; norm_num
theorem lit_m1 : Ideal.ofBits .f32 0xBF800000#32 = ((-1 : ℝ) : EReal) := by
  simp [Ideal.ofBits, Ideal.ieee, -EReal.coe_mul]; norm_num
theorem lit_m2 : Ideal.ofBits .f32 0xC0000000#32 = ((-2 : ℝ) : EReal) := by
  simp [Ideal.ofBits, Ideal.ieee, -EReal.coe_mul]; norm_num

/-- A small word read as an integer. -/
theorem toInt_small {n : ℕ} (h : n < 2 ^ 31) : (BitVec.ofNat 32 n).toInt = (n : ℤ) := by
  have e : (BitVec.ofNat 32 n).toNat = n := by rw [BitVec.toNat_ofNat]; exact Nat.mod_eq_of_lt (by omega)
  rw [BitVec.toInt_eq_toNat_of_lt (by rw [e]; omega), e]

/-! ## Corners and weights at one position -/

/-- The lower corner. -/
def lo (p : EReal) : EReal := min ((225 : ℝ) : EReal) (max ((0 : ℝ) : EReal) (Ideal.liftRound Int.floor p))
/-- The upper corner. -/
def hi (p : EReal) : EReal := min ((225 : ℝ) : EReal) (max ((0 : ℝ) : EReal) (Ideal.liftRound Int.floor p + ((1 : ℝ) : EReal)))
/-- The lower corner's weight. -/
def wlo (p : EReal) : EReal := ((1 : ℝ) : EReal) + (lo p - p)
/-- The upper corner's weight. -/
def whi (p : EReal) : EReal := ((1 : ℝ) : EReal) - (hi p - p)
open Classical in
/-- The weight `w` if the corner `q` is `e` away from `b`, else zero. -/
def pick (q b w : EReal) (e : ℝ) : EReal := if q - b = (e : EReal) then w else ((0 : ℝ) : EReal)
/-- The lower corner's share of shift `e`. -/
def cl (p b : EReal) (e : ℝ) : EReal := pick (lo p) b (wlo p) e
/-- The upper corner's share of shift `e`. -/
def cu (p b : EReal) (e : ℝ) : EReal := pick (hi p) b (whi p) e
/-- Both shares. -/
def cb (p b : EReal) (e : ℝ) : EReal := cl p b e + cu p b e

/-- The shares along x, window row above; each with its shift plus 3. -/
def xm (b p : EReal) : List (Fin 8 × EReal) :=
  [(⟨1, by decide⟩, cl p b (-2)), (⟨2, by decide⟩, cb p b (-1)), (⟨3, by decide⟩, cu p b 0)]
/-- Along x, window row below. -/
def xp (b p : EReal) : List (Fin 8 × EReal) :=
  [(⟨4, by decide⟩, wlo p + cu p b 1), (⟨5, by decide⟩, cu p b 2)]
/-- Along y, window column to the left. -/
def ym (b p : EReal) : List (Fin 7 × EReal) :=
  [(⟨2, by decide⟩, cl p b (-1)), (⟨3, by decide⟩, cb p b 0), (⟨4, by decide⟩, cu p b 1)]
/-- Along y, window column to the right. -/
def yp (b p : EReal) : List (Fin 7 × EReal) :=
  [(⟨2, by decide⟩, cl p b (-1)), (⟨3, by decide⟩, cb p b 0), (⟨4, by decide⟩, cb p b 1), (⟨5, by decide⟩, cu p b 2)]

/-- What a family of shares must do at base `n + 1` and position `p`: the corners are two indices of the padded image,
    the weights and shares are nonnegative and finite, and the sum over the shifts is the sum over the corners. -/
def Ok (n m : ℕ) (p : EReal) (L : List (Fin m × EReal)) : Prop :=
  ∃ (q0 q1 : Fin 226) (d0 d1 : Fin m),
    lo p = ((q0.val : ℝ) : EReal) ∧ hi p = ((q1.val : ℝ) : EReal) ∧ d0.val + n = q0.val + 2 ∧ d1.val + n = q1.val + 2
    ∧ (0 ≤ wlo p ∧ wlo p ≠ ⊤) ∧ (0 ≤ whi p ∧ whi p ≠ ⊤) ∧ (∀ u ∈ L, 0 ≤ u.2 ∧ u.2 ≠ ⊤)
    ∧ ∀ f : Fin m → EReal, (L.map fun u => u.2 * f u.1).sum = wlo p * f d0 + whi p * f d1

/-! ## On the reals -/

theorem lo_coe (p : ℝ) (q : ℕ) (hq : (q : ℤ) = min 225 (max 0 ⌊p⌋)) : lo (p : EReal) = ((q : ℝ) : EReal) := by
  have h : ((q : ℤ) : ℝ) = min 225 (max 0 (⌊p⌋ : ℝ)) := by rw [hq]; push_cast; rfl
  unfold lo
  rw [show Ideal.liftRound Int.floor (p : EReal) = ((⌊p⌋ : ℝ) : EReal) from rfl]
  rw [show ((q : ℝ)) = ((q : ℤ) : ℝ) by push_cast; rfl, h, EReal.coe_strictMono.monotone.map_min, EReal.coe_strictMono.monotone.map_max]

theorem hi_coe (p : ℝ) (q : ℕ) (hq : (q : ℤ) = min 225 (max 0 (⌊p⌋ + 1))) : hi (p : EReal) = ((q : ℝ) : EReal) := by
  have h : ((q : ℤ) : ℝ) = min 225 (max 0 ((⌊p⌋ : ℝ) + 1)) := by rw [hq]; push_cast; rfl
  unfold hi
  rw [show Ideal.liftRound Int.floor (p : EReal) = ((⌊p⌋ : ℝ) : EReal) from rfl]
  rw [show ((q : ℝ)) = ((q : ℤ) : ℝ) by push_cast; rfl, h, EReal.coe_strictMono.monotone.map_min, EReal.coe_strictMono.monotone.map_max, EReal.coe_add]

theorem pick_coe (q n : ℕ) (w : EReal) (e : ℤ) :
    pick ((q : ℝ) : EReal) (((n : ℝ) + 1 : ℝ) : EReal) w (e : ℝ) = if (q : ℤ) = n + 1 + e then w else 0 := by
  have key : ((q : ℝ) : EReal) - (((n : ℝ) + 1 : ℝ) : EReal) = ((e : ℝ) : EReal) ↔ (q : ℤ) = n + 1 + e := by
    rw [← EReal.coe_sub, EReal.coe_eq_coe_iff]
    constructor
    · intro h
      have : ((q : ℤ) : ℝ) = ((n + 1 + e : ℤ) : ℝ) := by push_cast; linarith
      exact_mod_cast this
    · intro h
      have : ((q : ℤ) : ℝ) = ((n + 1 + e : ℤ) : ℝ) := by rw [h]
      push_cast at this
      linarith
  unfold pick
  by_cases h : (q : ℤ) = n + 1 + e
  · rw [if_pos h, if_pos (key.mpr h)]
  · rw [if_neg h, if_neg (fun h' => h (key.mp h'))]
    rfl

/-- The corners, weights and shares of a real position whose floor `z` is at least -1 and at most 225. -/
theorem corners (n : ℕ) (p : ℝ) (z : ℤ) (hz : ⌊p⌋ = z) (h0 : -1 ≤ z) (h1 : z ≤ 225) :
    ∃ (q0 q1 : ℕ) (w0 w1 : ℝ), (q0 : ℤ) = min 225 (max 0 z) ∧ (q1 : ℤ) = min 225 (max 0 (z + 1)) ∧ 0 ≤ w0 ∧ 0 ≤ w1
      ∧ lo (p : EReal) = ((q0 : ℝ) : EReal) ∧ hi (p : EReal) = ((q1 : ℝ) : EReal)
      ∧ wlo (p : EReal) = (w0 : EReal) ∧ whi (p : EReal) = (w1 : EReal)
      ∧ (∀ (e : ℤ) (r : ℝ), r = e → cl (p : EReal) (((n : ℝ) + 1 : ℝ) : EReal) r = if (q0 : ℤ) = n + 1 + e then (w0 : EReal) else 0)
      ∧ (∀ (e : ℤ) (r : ℝ), r = e → cu (p : EReal) (((n : ℝ) + 1 : ℝ) : EReal) r = if (q1 : ℤ) = n + 1 + e then (w1 : EReal) else 0) := by
  have hq0 : (((min 225 (max 0 z)).toNat : ℕ) : ℤ) = min 225 (max 0 z) := Int.toNat_of_nonneg (by omega)
  have hq1 : (((min 225 (max 0 (z + 1))).toNat : ℕ) : ℤ) = min 225 (max 0 (z + 1)) := Int.toNat_of_nonneg (by omega)
  generalize (min 225 (max 0 z)).toNat = q0 at hq0
  generalize (min 225 (max 0 (z + 1))).toNat = q1 at hq1
  have e0 := lo_coe p q0 (by rw [hz]; exact hq0)
  have e1 := hi_coe p q1 (by rw [hz]; exact hq1)
  have f0 : (z : ℝ) ≤ p := by rw [← hz]; exact Int.floor_le p
  have f1 : p < z + 1 := by rw [← hz]; exact Int.lt_floor_add_one p
  have g0 : (z : ℝ) ≤ q0 := by
    have : z ≤ (q0 : ℤ) := by omega
    exact_mod_cast this
  have g1 : (q1 : ℝ) ≤ z + 1 := by
    have : (q1 : ℤ) ≤ z + 1 := by omega
    exact_mod_cast this
  have k0 : wlo (p : EReal) = ((1 + ((q0 : ℝ) - p) : ℝ) : EReal) := by
    unfold wlo; rw [e0, ← EReal.coe_sub, ← EReal.coe_add]
  have k1 : whi (p : EReal) = ((1 - ((q1 : ℝ) - p) : ℝ) : EReal) := by
    unfold whi; rw [e1, ← EReal.coe_sub, ← EReal.coe_sub]
  refine ⟨q0, q1, 1 + (q0 - p), 1 - (q1 - p), hq0, hq1, by linarith, by linarith, e0, e1, k0, k1, fun e r hr => ?_, fun e r hr => ?_⟩
  · unfold cl; rw [e0, k0, hr, pick_coe]
  · unfold cu; rw [e1, k1, hr, pick_coe]

theorem coe_nonneg_ne_top {w : ℝ} (h : 0 ≤ w) : 0 ≤ (w : EReal) ∧ (w : EReal) ≠ ⊤ :=
  ⟨EReal.coe_nonneg.mpr h, EReal.coe_ne_top w⟩

/-- A corner's share: its weight at the shift the corner has. -/
abbrev sh (q n : ℕ) (w : ℝ) (e : ℤ) : EReal := if (q : ℤ) = n + 1 + e then (w : EReal) else 0

theorem sh_ok {q n : ℕ} {w : ℝ} (hw : 0 ≤ w) (e : ℤ) : 0 ≤ sh q n w e ∧ sh q n w e ≠ ⊤ := by
  unfold sh
  split_ifs
  · exact coe_nonneg_ne_top hw
  · exact ⟨le_rfl, EReal.zero_ne_top⟩

theorem add_ok {a b : EReal} (ha : 0 ≤ a ∧ a ≠ ⊤) (hb : 0 ≤ b ∧ b ≠ ⊤) : 0 ≤ a + b ∧ a + b ≠ ⊤ :=
  ⟨add_nonneg ha.1 hb.1, EReal.add_ne_top ha.2 hb.2⟩

theorem add_mul_ok {a b : EReal} (ha : 0 ≤ a ∧ a ≠ ⊤) (hb : 0 ≤ b ∧ b ≠ ⊤) (x : EReal) : (a + b) * x = a * x + b * x :=
  EReal.right_distrib_of_nonneg ha.1 hb.1

theorem mul_add_ok {a : EReal} (ha : 0 ≤ a ∧ a ≠ ⊤) (x y : EReal) : a * (x + y) = a * x + a * y :=
  EReal.left_distrib_of_nonneg_of_ne_top ha.1 ha.2 x y

/-- A share at shift `u` reads the corner's own value. -/
theorem sh_mul {m : ℕ} (f : Fin m → EReal) (q n : ℕ) (w : ℝ) (e : ℤ) (u d : Fin m) (h : (q : ℤ) = n + 1 + e → u.val = d.val) :
    sh q n w e * f u = if (q : ℤ) = n + 1 + e then (w : EReal) * f d else 0 := by
  unfold sh
  split_ifs with c
  · rw [Fin.ext (h c)]
  · exact zero_mul _

/-- Window row above: the position is between 1 and 2 before the base. -/
theorem ok_xm {n : ℕ} (hn : n < 224) {p : ℝ} (h1 : p ≤ n) (h2 : (n : ℝ) - 1 < p) :
    Ok n 8 (p : EReal) (xm (((n : ℝ) + 1 : ℝ) : EReal) (p : EReal)) := by
  have hz : ⌊p⌋ = n ∨ ⌊p⌋ = (n : ℤ) - 1 := by
    have a : (n : ℤ) - 1 ≤ ⌊p⌋ := Int.le_floor.mpr (by push_cast; linarith)
    have b : ⌊p⌋ < (n : ℤ) + 1 := Int.floor_lt.mpr (by push_cast; linarith)
    omega
  obtain ⟨q0, q1, w0, w1, hq0, hq1, hw0, hw1, e0, e1, k0, k1, c0, c1⟩ := corners n p _ rfl (by omega) (by omega)
  have L : xm (((n : ℝ) + 1 : ℝ) : EReal) (p : EReal) = [(⟨1, by decide⟩, sh q0 n w0 (-2)),
      (⟨2, by decide⟩, sh q0 n w0 (-1) + sh q1 n w1 (-1)), (⟨3, by decide⟩, sh q1 n w1 0)] := by
    unfold xm cb
    rw [c0 (-2) (-2) (by norm_num), c0 (-1) (-1) (by norm_num), c1 (-1) (-1) (by norm_num), c1 0 0 (by norm_num)]
  have a0 := fun e => sh_ok (q := q0) (n := n) hw0 e
  have a1 := fun e => sh_ok (q := q1) (n := n) hw1 e
  refine ⟨⟨q0, by omega⟩, ⟨q1, by omega⟩, ⟨q0 + 2 - n, by omega⟩, ⟨q1 + 2 - n, by omega⟩, e0, e1,
    by show q0 + 2 - n + n = q0 + 2; omega, by show q1 + 2 - n + n = q1 + 2; omega, k0 ▸ coe_nonneg_ne_top hw0,
    k1 ▸ coe_nonneg_ne_top hw1, ?_, fun f => ?_⟩
  · rw [L]
    simp only [List.forall_mem_cons]
    exact ⟨a0 _, add_ok (a0 _) (a1 _), a1 _, fun _ h => absurd h List.not_mem_nil⟩
  · rw [L, k0, k1]
    simp only [List.map_cons, List.map_nil, List.sum_cons, List.sum_nil, add_mul_ok (a0 _) (a1 _)]
    rw [sh_mul f q0 n w0 (-2) _ ⟨q0 + 2 - n, by omega⟩ (fun h => by show 1 = q0 + 2 - n; omega),
      sh_mul f q0 n w0 (-1) _ ⟨q0 + 2 - n, by omega⟩ (fun h => by show 2 = q0 + 2 - n; omega),
      sh_mul f q1 n w1 (-1) _ ⟨q1 + 2 - n, by omega⟩ (fun h => by show 2 = q1 + 2 - n; omega),
      sh_mul f q1 n w1 0 _ ⟨q1 + 2 - n, by omega⟩ (fun h => by show 3 = q1 + 2 - n; omega)]
    generalize (w0 : EReal) * _ = A
    generalize (w1 : EReal) * _ = B
    split_ifs <;> first | (exfalso; omega) | simp only [add_zero, zero_add]

/-- Window row below: the position is between 1 and 2 after the base. -/
theorem ok_xp {n : ℕ} (hn : n < 224) {p : ℝ} (h1 : (n : ℝ) + 2 ≤ p) (h2 : p < n + 3) :
    Ok n 8 (p : EReal) (xp (((n : ℝ) + 1 : ℝ) : EReal) (p : EReal)) := by
  have hz : ⌊p⌋ = (n : ℤ) + 2 := Int.floor_eq_iff.mpr ⟨by push_cast; linarith, by push_cast; linarith⟩
  obtain ⟨q0, q1, w0, w1, hq0, hq1, hw0, hw1, e0, e1, k0, k1, c0, c1⟩ := corners n p _ rfl (by omega) (by omega)
  have L : xp (((n : ℝ) + 1 : ℝ) : EReal) (p : EReal) = [(⟨4, by decide⟩, (w0 : EReal) + sh q1 n w1 1),
      (⟨5, by decide⟩, sh q1 n w1 2)] := by
    unfold xp
    rw [k0, c1 1 1 (by norm_num), c1 2 2 (by norm_num)]
  have a1 := fun e => sh_ok (q := q1) (n := n) hw1 e
  refine ⟨⟨q0, by omega⟩, ⟨q1, by omega⟩, ⟨4, by decide⟩, ⟨q1 + 2 - n, by omega⟩, e0, e1,
    by show 4 + n = q0 + 2; omega, by show q1 + 2 - n + n = q1 + 2; omega, k0 ▸ coe_nonneg_ne_top hw0,
    k1 ▸ coe_nonneg_ne_top hw1, ?_, fun f => ?_⟩
  · rw [L]
    simp only [List.forall_mem_cons]
    exact ⟨add_ok (coe_nonneg_ne_top hw0) (a1 _), a1 _, fun _ h => absurd h List.not_mem_nil⟩
  · rw [L, k0, k1]
    simp only [List.map_cons, List.map_nil, List.sum_cons, List.sum_nil, add_mul_ok (coe_nonneg_ne_top hw0) (a1 _)]
    rw [sh_mul f q1 n w1 1 _ ⟨q1 + 2 - n, by omega⟩ (fun h => by show 4 = q1 + 2 - n; omega),
      sh_mul f q1 n w1 2 _ ⟨q1 + 2 - n, by omega⟩ (fun h => by show 5 = q1 + 2 - n; omega)]
    generalize (w0 : EReal) * _ = A
    generalize (w1 : EReal) * _ = B
    split_ifs <;> first | (exfalso; omega) | simp only [add_zero, zero_add]

/-- Window column to the left: the position is less than 1 before or after the base, or 1 before it. -/
theorem ok_ym {n : ℕ} (hn : n < 224) {p : ℝ} (h1 : (n : ℝ) ≤ p) (h2 : p < n + 2) :
    Ok n 7 (p : EReal) (ym (((n : ℝ) + 1 : ℝ) : EReal) (p : EReal)) := by
  have hz : ⌊p⌋ = n ∨ ⌊p⌋ = (n : ℤ) + 1 := by
    have a : (n : ℤ) ≤ ⌊p⌋ := Int.le_floor.mpr (by push_cast; linarith)
    have b : ⌊p⌋ < (n : ℤ) + 2 := Int.floor_lt.mpr (by push_cast; linarith)
    omega
  obtain ⟨q0, q1, w0, w1, hq0, hq1, hw0, hw1, e0, e1, k0, k1, c0, c1⟩ := corners n p _ rfl (by omega) (by omega)
  have L : ym (((n : ℝ) + 1 : ℝ) : EReal) (p : EReal) = [(⟨2, by decide⟩, sh q0 n w0 (-1)),
      (⟨3, by decide⟩, sh q0 n w0 0 + sh q1 n w1 0), (⟨4, by decide⟩, sh q1 n w1 1)] := by
    unfold ym cb
    rw [c0 (-1) (-1) (by norm_num), c0 0 0 (by norm_num), c1 0 0 (by norm_num), c1 1 1 (by norm_num)]
  have a0 := fun e => sh_ok (q := q0) (n := n) hw0 e
  have a1 := fun e => sh_ok (q := q1) (n := n) hw1 e
  refine ⟨⟨q0, by omega⟩, ⟨q1, by omega⟩, ⟨q0 + 2 - n, by omega⟩, ⟨q1 + 2 - n, by omega⟩, e0, e1,
    by show q0 + 2 - n + n = q0 + 2; omega, by show q1 + 2 - n + n = q1 + 2; omega, k0 ▸ coe_nonneg_ne_top hw0,
    k1 ▸ coe_nonneg_ne_top hw1, ?_, fun f => ?_⟩
  · rw [L]
    simp only [List.forall_mem_cons]
    exact ⟨a0 _, add_ok (a0 _) (a1 _), a1 _, fun _ h => absurd h List.not_mem_nil⟩
  · rw [L, k0, k1]
    simp only [List.map_cons, List.map_nil, List.sum_cons, List.sum_nil, add_mul_ok (a0 _) (a1 _)]
    rw [sh_mul f q0 n w0 (-1) _ ⟨q0 + 2 - n, by omega⟩ (fun h => by show 2 = q0 + 2 - n; omega),
      sh_mul f q0 n w0 0 _ ⟨q0 + 2 - n, by omega⟩ (fun h => by show 3 = q0 + 2 - n; omega),
      sh_mul f q1 n w1 0 _ ⟨q1 + 2 - n, by omega⟩ (fun h => by show 3 = q1 + 2 - n; omega),
      sh_mul f q1 n w1 1 _ ⟨q1 + 2 - n, by omega⟩ (fun h => by show 4 = q1 + 2 - n; omega)]
    generalize (w0 : EReal) * _ = A
    generalize (w1 : EReal) * _ = B
    split_ifs <;> first | (exfalso; omega) | simp only [add_zero, zero_add]

/-- Window column to the right: the position is less than 1 before or after the base, or 1 after it. -/
theorem ok_yp {n : ℕ} (hn : n < 224) {p : ℝ} (h1 : (n : ℝ) < p) (h2 : p ≤ n + 2) :
    Ok n 7 (p : EReal) (yp (((n : ℝ) + 1 : ℝ) : EReal) (p : EReal)) := by
  have hz : ⌊p⌋ = n ∨ ⌊p⌋ = (n : ℤ) + 1 ∨ ⌊p⌋ = (n : ℤ) + 2 := by
    have a : (n : ℤ) ≤ ⌊p⌋ := Int.le_floor.mpr (by push_cast; linarith)
    have b : ⌊p⌋ < (n : ℤ) + 3 := Int.floor_lt.mpr (by push_cast; linarith)
    omega
  obtain ⟨q0, q1, w0, w1, hq0, hq1, hw0, hw1, e0, e1, k0, k1, c0, c1⟩ := corners n p _ rfl (by omega) (by omega)
  have L : yp (((n : ℝ) + 1 : ℝ) : EReal) (p : EReal) = [(⟨2, by decide⟩, sh q0 n w0 (-1)),
      (⟨3, by decide⟩, sh q0 n w0 0 + sh q1 n w1 0), (⟨4, by decide⟩, sh q0 n w0 1 + sh q1 n w1 1),
      (⟨5, by decide⟩, sh q1 n w1 2)] := by
    unfold yp cb
    rw [c0 (-1) (-1) (by norm_num), c0 0 0 (by norm_num), c1 0 0 (by norm_num), c0 1 1 (by norm_num),
      c1 1 1 (by norm_num), c1 2 2 (by norm_num)]
  have a0 := fun e => sh_ok (q := q0) (n := n) hw0 e
  have a1 := fun e => sh_ok (q := q1) (n := n) hw1 e
  refine ⟨⟨q0, by omega⟩, ⟨q1, by omega⟩, ⟨q0 + 2 - n, by omega⟩, ⟨q1 + 2 - n, by omega⟩, e0, e1,
    by show q0 + 2 - n + n = q0 + 2; omega, by show q1 + 2 - n + n = q1 + 2; omega, k0 ▸ coe_nonneg_ne_top hw0,
    k1 ▸ coe_nonneg_ne_top hw1, ?_, fun f => ?_⟩
  · rw [L]
    simp only [List.forall_mem_cons]
    exact ⟨a0 _, add_ok (a0 _) (a1 _), add_ok (a0 _) (a1 _), a1 _, fun _ h => absurd h List.not_mem_nil⟩
  · rw [L, k0, k1]
    simp only [List.map_cons, List.map_nil, List.sum_cons, List.sum_nil, add_mul_ok (a0 _) (a1 _)]
    rw [sh_mul f q0 n w0 (-1) _ ⟨q0 + 2 - n, by omega⟩ (fun h => by show 2 = q0 + 2 - n; omega),
      sh_mul f q0 n w0 0 _ ⟨q0 + 2 - n, by omega⟩ (fun h => by show 3 = q0 + 2 - n; omega),
      sh_mul f q1 n w1 0 _ ⟨q1 + 2 - n, by omega⟩ (fun h => by show 3 = q1 + 2 - n; omega),
      sh_mul f q0 n w0 1 _ ⟨q0 + 2 - n, by omega⟩ (fun h => by show 4 = q0 + 2 - n; omega),
      sh_mul f q1 n w1 1 _ ⟨q1 + 2 - n, by omega⟩ (fun h => by show 4 = q1 + 2 - n; omega),
      sh_mul f q1 n w1 2 _ ⟨q1 + 2 - n, by omega⟩ (fun h => by show 5 = q1 + 2 - n; omega)]
    generalize (w0 : EReal) * _ = A
    generalize (w1 : EReal) * _ = B
    split_ifs <;> first | (exfalso; omega) | simp only [add_zero, zero_add]

/-- No shift: the position is the base, its lower corner has the whole weight. -/
theorem ok_zero {m : ℕ} {n : ℕ} (hn : n < 224) (h3 : 3 < m) (h4 : 4 < m) :
    Ok n m ((((n : ℝ) + 1 : ℝ)) : EReal) [(⟨3, h3⟩, (1 : EReal))] := by
  have hz : ⌊((n : ℝ) + 1)⌋ = (n : ℤ) + 1 := Int.floor_eq_iff.mpr ⟨by push_cast; linarith, by push_cast; linarith⟩
  have e0 := lo_coe ((n : ℝ) + 1) (n + 1) (by rw [hz]; push_cast; omega)
  have e1 := hi_coe ((n : ℝ) + 1) (n + 2) (by rw [hz]; push_cast; omega)
  have k0 : wlo (((n : ℝ) + 1 : ℝ) : EReal) = ((1 : ℝ) : EReal) := by
    unfold wlo; rw [e0, ← EReal.coe_sub, ← EReal.coe_add]; congr 1; push_cast; ring
  have k1 : whi (((n : ℝ) + 1 : ℝ) : EReal) = ((0 : ℝ) : EReal) := by
    unfold whi; rw [e1, ← EReal.coe_sub, ← EReal.coe_sub]; congr 1; push_cast; ring
  refine ⟨⟨n + 1, by omega⟩, ⟨n + 2, by omega⟩, ⟨3, h3⟩, ⟨4, h4⟩, e0, e1, by show 3 + n = n + 1 + 2; omega,
    by show 4 + n = n + 2 + 2; omega, k0 ▸ coe_nonneg_ne_top zero_le_one, k1 ▸ coe_nonneg_ne_top le_rfl, ?_, fun f => ?_⟩
  · simp only [List.forall_mem_cons]
    exact ⟨⟨zero_le_one, EReal.coe_ne_top 1⟩, fun _ h => absurd h List.not_mem_nil⟩
  · rw [k0, k1]; simp

/-! ## Two axes -/

/-- The four-corner sum is the sum over the shifts along both axes. -/
theorem cross_sum {n n' m m' : ℕ} {p p' : EReal} {X : List (Fin m × EReal)} {Y : List (Fin m' × EReal)}
    (hX : Ok n m p X) (hY : Ok n' m' p' Y) (f : Fin m → Fin m' → EReal) (g : Fin 226 → Fin 226 → EReal)
    (hfg : ∀ d d' q q', d.val + n = q.val + 2 → d'.val + n' = q'.val + 2 → f d d' = g q q') :
    ∃ q0 q1 q0' q1' : Fin 226,
      (lo p = ((q0.val : ℝ) : EReal) ∧ hi p = ((q1.val : ℝ) : EReal) ∧ lo p' = ((q0'.val : ℝ) : EReal) ∧ hi p' = ((q1'.val : ℝ) : EReal))
      ∧ (X.map fun u => (Y.map fun v => u.2 * v.2 * f u.1 v.1).sum).sum
        = wlo p * wlo p' * g q0 q0' + whi p * whi p' * g q1 q1' + wlo p * whi p' * g q0 q1' + whi p * wlo p' * g q1 q0' := by
  obtain ⟨q0, q1, d0, d1, e0, e1, s0, s1, w0, w1, hu, hs⟩ := hX
  obtain ⟨q0', q1', d0', d1', e0', e1', s0', s1', w0', w1', hu', hs'⟩ := hY
  refine ⟨q0, q1, q0', q1', ⟨e0, e1, e0', e1'⟩, ?_⟩
  have step : (X.map fun u => (Y.map fun v => u.2 * v.2 * f u.1 v.1).sum)
      = X.map fun u => u.2 * (wlo p' * f u.1 d0' + whi p' * f u.1 d1') := by
    refine List.map_congr_left fun u hmem => ?_
    rw [← hs' (f u.1)]
    have hu2 := hu u hmem
    clear hs hs' hu'
    induction Y with
    | nil => simp
    | cons v Y ih =>
      simp only [List.map_cons, List.sum_cons] at ih ⊢
      rw [ih, mul_add_ok hu2, mul_assoc]
  rw [step, hs (fun d => wlo p' * f d d0' + whi p' * f d d1'), mul_add_ok w0, mul_add_ok w1]
  rw [hfg d0 d0' q0 q0' s0 s0', hfg d0 d1' q0 q1' s0 s1', hfg d1 d0' q1 q0' s1 s0', hfg d1 d1' q1 q1' s1 s1']
  simp only [mul_assoc]
  abel

/-! ## The rotated positions for an angle between 0 and 1 -/

variable {r : ℝ} (h0 : 0 ≤ r) (h1 : r ≤ 1)
include h0 h1

theorem cos_pos : 0 < Real.cos r := Real.cos_pos_of_le_one (by rw [abs_of_nonneg h0]; exact h1)

theorem sin_nonneg : 0 ≤ Real.sin r :=
  Real.sin_nonneg_of_nonneg_of_le_pi h0 (h1.trans (by linarith [Real.two_le_pi]))

theorem sum_ge : 1 ≤ Real.cos r + Real.sin r := by
  nlinarith [Real.sin_sq_add_cos_sq r, cos_pos h0 h1, sin_nonneg h0 h1, mul_nonneg (cos_pos h0 h1).le (sin_nonneg h0 h1)]

theorem sum_lt : Real.cos r + Real.sin r < 2 := by
  nlinarith [Real.sin_sq_add_cos_sq r, sq_nonneg (Real.cos r - Real.sin r), cos_pos h0 h1, sin_nonneg h0 h1]

theorem diff_gt : -1 < Real.cos r - Real.sin r := by linarith [cos_pos h0 h1, Real.sin_le_one r]

theorem diff_le : Real.cos r - Real.sin r ≤ 1 := by linarith [Real.cos_le_one r, sin_nonneg h0 h1]

theorem x_above {n : ℕ} (hn : n < 224) :
    Ok n 8 (((n : ℝ) + 1 + (-1) * (Real.cos r + Real.sin r) : ℝ) : EReal)
      (xm (((n : ℝ) + 1 : ℝ) : EReal) (((n : ℝ) + 1 + (-1) * (Real.cos r + Real.sin r) : ℝ) : EReal)) :=
  ok_xm hn (by linarith [sum_ge h0 h1]) (by linarith [sum_lt h0 h1])

theorem x_below {n : ℕ} (hn : n < 224) :
    Ok n 8 (((n : ℝ) + 1 + 1 * (Real.cos r + Real.sin r) : ℝ) : EReal)
      (xp (((n : ℝ) + 1 : ℝ) : EReal) (((n : ℝ) + 1 + 1 * (Real.cos r + Real.sin r) : ℝ) : EReal)) :=
  ok_xp hn (by linarith [sum_ge h0 h1]) (by linarith [sum_lt h0 h1])

theorem y_left {n : ℕ} (hn : n < 224) :
    Ok n 7 (((n : ℝ) + 1 + (-1) * (Real.cos r - Real.sin r) : ℝ) : EReal)
      (ym (((n : ℝ) + 1 : ℝ) : EReal) (((n : ℝ) + 1 + (-1) * (Real.cos r - Real.sin r) : ℝ) : EReal)) :=
  ok_ym hn (by linarith [diff_le h0 h1]) (by linarith [diff_gt h0 h1])

theorem y_right {n : ℕ} (hn : n < 224) :
    Ok n 7 (((n : ℝ) + 1 + 1 * (Real.cos r - Real.sin r) : ℝ) : EReal)
      (yp (((n : ℝ) + 1 : ℝ) : EReal) (((n : ℝ) + 1 + 1 * (Real.cos r - Real.sin r) : ℝ) : EReal)) :=
  ok_yp hn (by linarith [diff_gt h0 h1]) (by linarith [diff_le h0 h1])

end Cert.Axis

end

end
-- ==== Proof.Spec.lean ====
/- THE VALUE both programs compute, at one index of the result: the constrained kernel's nine taps over all channels, each
   applied to the bilinear sample of the padded image at the rotated position, plus the bias. -/
module

public import proofs.«01_k».proof.Proof.Axis

@[expose] public section

noncomputable section

namespace Cert.Spec

open Idealize.ShloMosaic Cert.Axis

/-- The padded image of one channel, three zero rows and columns before it: row `R`, column `Q`. -/
def pix (x : Fin 224 → Fin 224 → EReal) (R Q : ℕ) : EReal :=
  if h : (3 ≤ R ∧ R < 227) ∧ (3 ≤ Q ∧ Q < 227) then x ⟨R - 3, by omega⟩ ⟨Q - 3, by omega⟩ else ((0 : ℝ) : EReal)

/-- The natural number a corner's coordinate is. -/
def ind (e : EReal) : ℕ := ⌊e.toReal⌋.toNat

theorem ind_coe (q : ℕ) : ind ((q : ℝ) : EReal) = q := by
  unfold ind
  rw [EReal.toReal_coe, Int.floor_natCast]
  exact Int.toNat_natCast q

/-- The bilinear sample of `f` at the position `(p, p')`, the corners in the order lower-lower, upper-upper,
    lower-upper, upper-lower. The image `f` starts two rows and columns before the coordinate zero. -/
def samp (f : ℕ → ℕ → EReal) (p p' : EReal) : EReal :=
  wlo p * wlo p' * f (ind (lo p) + 2) (ind (lo p') + 2) + whi p * whi p' * f (ind (hi p) + 2) (ind (hi p') + 2)
    + wlo p * whi p' * f (ind (lo p) + 2) (ind (hi p') + 2) + whi p * wlo p' * f (ind (hi p) + 2) (ind (lo p') + 2)

/-- The row position of the window's row `b` at pixel row `n`, rotated by the angle `r`. -/
def px (n : ℕ) (r : ℝ) (b : Fin 3) : EReal :=
  (((n : ℝ) + 1 + ((b.val : ℝ) - 1) * (Real.cos r + Real.sin r) : ℝ) : EReal)

/-- The column position of the window's column `a` at pixel column `n`, rotated by the angle `r`. -/
def py (n : ℕ) (r : ℝ) (a : Fin 3) : EReal :=
  (((n : ℝ) + 1 + ((a.val : ℝ) - 1) * (Real.cos r - Real.sin r) : ℝ) : EReal)

/-- The constrained kernel of one pair of channels: the middle row is minus the sum of the other two. -/
def buf (w : Fin 3 → Fin 3 → EReal) (a b : Fin 3) : EReal :=
  match a with
  | 0 => w 0 b
  | 1 => -(w 0 b + w 2 b)
  | 2 => w 2 b

/-- One element of the result. -/
def out (x : Fin 96 → Fin 224 → Fin 224 → EReal) (al : Fin 224 → Fin 224 → EReal) (w : Fin 96 → Fin 96 → Fin 3 → Fin 3 → EReal)
    (bias : Fin 96 → EReal) (o : Fin 96) (i j : Fin 224) : EReal :=
  (∑ c : Fin 96, ∑ a : Fin 3, ∑ b : Fin 3,
    buf (w o c) a b * samp (pix (x c)) (px i.val (al i j).toReal b) (py j.val (al i j).toReal a)) + bias o

/-! ## The kernel's shares along each axis -/

/-- The shares along x for the window's row `b`. -/
def X (n : ℕ) (r : ℝ) (b : Fin 3) : List (Fin 8 × EReal) :=
  match b with
  | 0 => xm (((n : ℝ) + 1 : ℝ) : EReal) (((n : ℝ) + 1 + (-1) * (Real.cos r + Real.sin r) : ℝ) : EReal)
  | 1 => [(⟨3, by decide⟩, 1)]
  | 2 => xp (((n : ℝ) + 1 : ℝ) : EReal) (((n : ℝ) + 1 + 1 * (Real.cos r + Real.sin r) : ℝ) : EReal)

/-- The shares along y for the window's column `a`. -/
def Y (n : ℕ) (r : ℝ) (a : Fin 3) : List (Fin 7 × EReal) :=
  match a with
  | 0 => ym (((n : ℝ) + 1 : ℝ) : EReal) (((n : ℝ) + 1 + (-1) * (Real.cos r - Real.sin r) : ℝ) : EReal)
  | 1 => [(⟨3, by decide⟩, 1)]
  | 2 => yp (((n : ℝ) + 1 : ℝ) : EReal) (((n : ℝ) + 1 + 1 * (Real.cos r - Real.sin r) : ℝ) : EReal)

theorem ok_X {n : ℕ} (hn : n < 224) {r : ℝ} (h0 : 0 ≤ r) (h1 : r ≤ 1) (b : Fin 3) : Ok n 8 (px n r b) (X n r b) := by
  match b with
  | 0 => simpa [px, X] using x_above h0 h1 hn
  | 1 => simpa [px, X] using ok_zero (m := 8) hn (by decide) (by decide)
  | 2 =>
    have e : px n r 2 = (((n : ℝ) + 1 + 1 * (Real.cos r + Real.sin r) : ℝ) : EReal) := by
      unfold px; norm_num
    rw [e]; exact x_below h0 h1 hn

theorem ok_Y {n : ℕ} (hn : n < 224) {r : ℝ} (h0 : 0 ≤ r) (h1 : r ≤ 1) (a : Fin 3) : Ok n 7 (py n r a) (Y n r a) := by
  match a with
  | 0 => simpa [py, Y] using y_left h0 h1 hn
  | 1 => simpa [py, Y] using ok_zero (m := 7) hn (by decide) (by decide)
  | 2 =>
    have e : py n r 2 = (((n : ℝ) + 1 + 1 * (Real.cos r - Real.sin r) : ℝ) : EReal) := by
      unfold py; norm_num
    rw [e]; exact y_right h0 h1 hn

/-- The sum over the shares is the bilinear sample. -/
theorem shares {n n' : ℕ} (hn : n < 224) (hn' : n' < 224) {r : ℝ} (h0 : 0 ≤ r) (h1 : r ≤ 1) (b a : Fin 3) (f : ℕ → ℕ → EReal) :
    ((X n r b).map fun u => ((Y n' r a).map fun v => u.2 * v.2 * f (n + u.1.val) (n' + v.1.val)).sum).sum
      = samp f (px n r b) (py n' r a) := by
  obtain ⟨q0, q1, q0', q1', ⟨e0, e1, e0', e1'⟩, hs⟩ := cross_sum (ok_X hn h0 h1 b) (ok_Y hn' h0 h1 a)
    (fun d d' => f (n + d.val) (n' + d'.val)) (fun q q' => f (q.val + 2) (q'.val + 2))
    (fun d d' q q' h h' => by show f _ _ = f _ _; rw [show n + d.val = q.val + 2 by omega, show n' + d'.val = q'.val + 2 by omega])
  rw [hs]
  unfold samp
  rw [e0, e1, e0', e1', ind_coe, ind_coe, ind_coe, ind_coe]

end Cert.Spec

end

end
-- ==== Proof.Coeff.lean ====
/- A TAP AT ONE INDEX, on the ideal floats: the coefficient vectors are the axis shares of Axis.lean, and a tap is the
   bilinear sample at the rotated position. -/
module

public import proofs.«01_k».proof.Proof.Rows
public import proofs.«01_k».proof.Proof.Spec
public import Idealize.ShloMosaic.Lib.ValueIdx
public import Idealize.ShloMosaic.Lib.Pipeline.ValueKit

@[expose] public section

noncomputable section

namespace Cert.KernelIdeal.Taps

open Cert.KernelIdeal Cert.KernelIdeal.Gen Idealize.ShloMosaic Idealize.ShloMosaic.TcCoe

/-! ## The coefficient vectors at an index -/

section
variable (p b q w : FVec Ideal S8x224 .f32) (j : S8x224.Idx)

theorem lo_at : lo p j = Axis.lo (p j) := by
  show min (Ideal.ofBits .f32 0x43610000#32) (max (Ideal.ofBits .f32 0x00000000#32) (Ideal.liftRound Int.floor (p j))) = _
  rw [Axis.lit_225, Axis.lit_0]; rfl

theorem hi_at : hi p j = Axis.hi (p j) := by
  show min (Ideal.ofBits .f32 0x43610000#32)
    (max (Ideal.ofBits .f32 0x00000000#32) (Ideal.liftRound Int.floor (p j) + Ideal.ofBits .f32 0x3F800000#32)) = _
  rw [Axis.lit_225, Axis.lit_0, Axis.lit_1]; rfl

theorem wlo_at : wlo p j = Axis.wlo (p j) := by
  show Ideal.ofBits .f32 0x3F800000#32 + (lo p j - p j) = _
  rw [Axis.lit_1, lo_at]; rfl

theorem whi_at : whi p j = Axis.whi (p j) := by
  show Ideal.ofBits .f32 0x3F800000#32 - (hi p j - p j) = _
  rw [Axis.lit_1, hi_at]; rfl

theorem pick_at {e : BitVec 32} {r : ℝ} (he : Ideal.ofBits .f32 e = (r : EReal)) :
    pick q b w e j = Axis.pick (q j) (b j) (w j) r := by
  unfold pick Axis.pick
  show (if Ideal.cmp .oeq (q j - b j) (Ideal.ofBits .f32 e) = 1#1 then w j else Ideal.ofBits .f32 0x00000000#32) = _
  rw [he, Axis.lit_0]
  by_cases h : q j - b j = (r : EReal)
  · rw [if_pos h, h]; simp [Ideal.cmp]
  · rw [if_neg h]; simp [Ideal.cmp, h]

theorem cl_at {e : BitVec 32} {r : ℝ} (he : Ideal.ofBits .f32 e = (r : EReal)) : cl p b e j = Axis.cl (p j) (b j) r := by
  unfold cl; rw [pick_at _ _ _ _ he, lo_at, wlo_at]; rfl

theorem cu_at {e : BitVec 32} {r : ℝ} (he : Ideal.ofBits .f32 e = (r : EReal)) : cu p b e j = Axis.cu (p j) (b j) r := by
  unfold cu; rw [pick_at _ _ _ _ he, hi_at, whi_at]; rfl

theorem cb_at {e : BitVec 32} {r : ℝ} (he : Ideal.ofBits .f32 e = (r : EReal)) : cb p b e j = Axis.cb (p j) (b j) r := by
  show cl p b e j + cu p b e j = _
  rw [cl_at _ _ _ he, cu_at _ _ _ he]; rfl

/-- A list of coefficient vectors at an index. -/
def at_ {m : ℕ} (L : List (Fin m × FVec Ideal S8x224 .bf16)) : List (Fin m × EReal) := L.map fun u => (u.1, u.2 j)

theorem xm_at : at_ j (xm b p) = Axis.xm (b j) (p j) := by
  unfold at_ xm Axis.xm
  simp only [List.map_cons, List.map_nil]
  rw [← cl_at p b j Axis.lit_m2, ← cb_at p b j Axis.lit_m1, ← cu_at p b j Axis.lit_0]
  rfl

theorem xp_at : at_ j (xp b p) = Axis.xp (b j) (p j) := by
  unfold at_ xp Axis.xp
  simp only [List.map_cons, List.map_nil]
  rw [← wlo_at p j, ← cu_at p b j Axis.lit_1, ← cu_at p b j Axis.lit_2]
  rfl

theorem ym_at : at_ j (ym b p) = Axis.ym (b j) (p j) := by
  unfold at_ ym Axis.ym
  simp only [List.map_cons, List.map_nil]
  rw [← cl_at p b j Axis.lit_m1, ← cb_at p b j Axis.lit_0, ← cu_at p b j Axis.lit_1]
  rfl

theorem yp_at : at_ j (yp b p) = Axis.yp (b j) (p j) := by
  unfold at_ yp Axis.yp
  simp only [List.map_cons, List.map_nil]
  rw [← cl_at p b j Axis.lit_m1, ← cb_at p b j Axis.lit_0, ← cb_at p b j Axis.lit_1, ← cu_at p b j Axis.lit_2]
  rfl

theorem pos_at {d : BitVec 32} {e : ℝ} (he : Ideal.ofBits .f32 d = (e : EReal)) (s : FVec Ideal S8x224 .f32) {u v : ℝ}
    (hb : b j = (u : EReal)) (hs : s j = (v : EReal)) : pos b s d j = ((u + e * v : ℝ) : EReal) := by
  show b j + Ideal.ofBits .f32 d * s j = _
  rw [he, hb, hs, ← EReal.coe_mul, ← EReal.coe_add]

end

/-! ## The bases and the rotation -/

/-- The row base of row `i` of grid point `g`. -/
theorem base_x (g : grid0.Coords) (i : Fin 8) (j : Fin 224) :
    (k0_pay11 (F := Ideal) g) (ix2 i j) = ((((8 * (g 0).val + i.val : ℕ) : ℝ) + 1 : ℝ) : EReal) := by
  have hg : (g 0).val < 28 := (g 0).isLt
  have hi := i.isLt
  show (((iota .tc S8x224 32 [0] iota_S8x224_d0_w32 (ix2 i j)).toInt : ℝ) : EReal)
    + (((BitVec.ofNat 32 (g 0).val * 8#32 + 1#32).toInt : ℝ) : EReal) = _
  rw [iota_single_apply]
  have e1 : (BitVec.ofNat 32 ((ix2 i j : S8x224.Idx) 0).val).toInt = (i.val : ℤ) := by
    exact Axis.toInt_small (by simp; omega)
  have e2 : (BitVec.ofNat 32 (g 0).val * 8#32 + 1#32).toInt = (8 * (g 0).val + 1 : ℤ) := by
    rw [← BitVec.ofNat_mul, ← BitVec.ofNat_add, Axis.toInt_small (by omega)]; push_cast; ring
  rw [e1, e2, ← EReal.coe_add]
  congr 1; push_cast; ring

/-- The column base. -/
theorem base_y (i : Fin 8) (j : Fin 224) :
    (k0_pay12 (F := Ideal)) (ix2 i j) = (((j.val : ℝ) + 1 : ℝ) : EReal) := by
  have hj := j.isLt
  show (((iota .tc S8x224 32 [1] iota_S8x224_d1_w32 (ix2 i j)).toInt : ℝ) : EReal) + Ideal.ofBits .f32 0x3F800000#32 = _
  rw [iota_single_apply]
  have e1 : (BitVec.ofNat 32 ((ix2 i j : S8x224.Idx) 1).val).toInt = (j.val : ℤ) := by
    exact Axis.toInt_small (by simp; omega)
  rw [e1, Axis.lit_1, ← EReal.coe_add]
  push_cast; rfl

section
variable (v : Vec Ideal S8x224 .f32) (j : S8x224.Idx) {r : ℝ} (hr : v j = (r : EReal))
include hr

theorem rot_x : (k0_pay9 v) j = ((Real.cos r + Real.sin r : ℝ) : EReal) := by
  show Ideal.cos (k0_pay6 v j) + Ideal.sin (k0_pay6 v j) = _
  unfold k0_pay6
  rw [shapeCast_self, hr]; rfl

theorem rot_y : (k0_pay10 v) j = ((Real.cos r - Real.sin r : ℝ) : EReal) := by
  show Ideal.cos (k0_pay6 v j) - Ideal.sin (k0_pay6 v j) = _
  unfold k0_pay6
  rw [shapeCast_self, hr]; rfl

end

/-! ## A tap -/

theorem term_at (i : Fin 8) (cf : FVec Ideal S8x224 .bf16) (s : Vec Ideal S1x96x224 .bf16) (c : Fin 96) (j : Fin 224) :
    term i cf s (ix2 c j) = cf (ix2 i j) * s (ix3 0 c j) := by
  show (broadcastTo S96x224 _ _ (ix2 c j) : EReal) * (shapeCast S96x224 s _ (ix2 c j) : EReal) = _
  rw [broadcastTo_apply _ _ (ix2 c j) (ix2 (0 : Fin 1) j) (by intro a; fin_cases a <;> rfl),
    extractStridedSlice_apply _ _ _ (ix2 (0 : Fin 1) j) (ix2 i j) (by intro a; fin_cases a <;> simp),
    shapeCast_apply s _ (ix2 c j) (ix3 (0 : Fin 1) c j) (by simp [Shape.rowMajor_val_two, Shape.rowMajor_val_three])]

theorem foldl_term_at (X : Fin 8 → Fin 7 → Vec Ideal S1x96x224 .bf16) (i : Fin 8) (c : Fin 96) (j : Fin 224)
    (L : List (Fin 8 × Fin 7 × FVec Ideal S8x224 .bf16)) (acc : FVec Ideal S96x224 .bf16) :
    L.foldl (fun acc v => addf acc (term i v.2.2 (X v.1 v.2.1))) acc (ix2 c j)
      = acc (ix2 c j) + (L.map fun u => (u.2.2 (ix2 i j) * X u.1 u.2.1 (ix3 0 c j) : EReal)).sum := by
  induction L generalizing acc with
  | nil => simp
  | cons u L ih =>
    rw [List.foldl_cons, ih, List.map_cons, List.sum_cons, ← add_assoc, ← term_at]
    rfl

/-- A nonempty sum of terms at an index. -/
theorem addUp_at (X : Fin 8 → Fin 7 → Vec Ideal S1x96x224 .bf16) (i : Fin 8) (c : Fin 96) (j : Fin 224)
    (L : List (Fin 8 × Fin 7 × FVec Ideal S8x224 .bf16)) (hL : L ≠ []) :
    addUp X i L (ix2 c j) = (L.map fun u => (u.2.2 (ix2 i j) * X u.1 u.2.1 (ix3 0 c j) : EReal)).sum := by
  cases L with
  | nil => exact absurd rfl hL
  | cons u L =>
    show L.foldl (fun acc v => addf acc (term i v.2.2 (X v.1 v.2.1))) (term i u.2.2 (X u.1 u.2.1)) (ix2 c j) = _
    rw [foldl_term_at, List.map_cons, List.sum_cons, term_at]

/-- The terms of shifts along both axes, summed. -/
theorem cross_at (A : List (Fin 8 × FVec Ideal S8x224 .bf16)) (B : List (Fin 7 × FVec Ideal S8x224 .bf16)) (j : S8x224.Idx)
    (f : Fin 8 → Fin 7 → EReal) :
    ((cross A B).map fun u => (u.2.2 j * f u.1 u.2.1 : EReal)).sum
      = ((at_ j A).map fun u => ((at_ j B).map fun v => u.2 * v.2 * f u.1 v.1).sum).sum := by
  unfold cross at_
  induction A with
  | nil => rfl
  | cons a A ih =>
    rw [List.flatMap_cons, List.map_append, List.sum_append, ih, List.map_cons, List.map_cons, List.sum_cons]
    congr 1
    rw [List.map_map, List.map_map]
    rfl

theorem onX_at (A : List (Fin 8 × FVec Ideal S8x224 .bf16)) (j : S8x224.Idx) (f : Fin 8 → Fin 7 → EReal) :
    ((onX A).map fun u => (u.2.2 j * f u.1 u.2.1 : EReal)).sum
      = ((at_ j A).map fun u => (([(⟨3, by decide⟩, 1)] : List (Fin 7 × EReal)).map fun v => u.2 * v.2 * f u.1 v.1).sum).sum := by
  unfold onX at_
  rw [List.map_map, List.map_map]
  congr 1
  refine List.map_congr_left fun u _ => ?_
  simp

theorem onY_at (B : List (Fin 7 × FVec Ideal S8x224 .bf16)) (j : S8x224.Idx) (f : Fin 8 → Fin 7 → EReal) :
    ((onY B).map fun u => (u.2.2 j * f u.1 u.2.1 : EReal)).sum
      = (([(⟨3, by decide⟩, 1)] : List (Fin 8 × EReal)).map fun u => ((at_ j B).map fun v => u.2 * v.2 * f u.1 v.1).sum).sum := by
  unfold onY at_
  rw [List.map_map, List.map_cons, List.map_nil, List.sum_singleton, List.map_map]
  congr 1
  refine List.map_congr_left fun u _ => ?_
  simp

/-- Tap `3 b + a` at channel `c`, column `j`: the bilinear sample. -/
theorem taps_at (g : grid0.Coords) (v : Vec Ideal S8x224 .f32) (S : Fin 8 → Fin 7 → Vec Ideal S1x96x224 .bf16) (i : Fin 8) (c : Fin 96)
    (j : Fin 224) {r : ℝ} (hr : v (ix2 i j) = (r : EReal)) (h0 : 0 ≤ r) (h1 : r ≤ 1) (f : ℕ → ℕ → EReal)
    (hS : ∀ d d', S d d' (ix3 0 c j) = f (8 * (g 0).val + i.val + d.val) (j.val + d'.val)) (b a : Fin 3) :
    addUp S i (terms g v (3 * b.val + a.val)) (ix2 c j)
      = Spec.samp f (Spec.px (8 * (g 0).val + i.val) r b) (Spec.py j.val r a) := by
  have hg : (g 0).val < 28 := (g 0).isLt
  have hi := i.isLt
  rw [← Spec.shares (n := 8 * (g 0).val + i.val) (n' := j.val) (by omega) j.isLt h0 h1 b a f]
  have hx := base_x g i j
  have hy := base_y i j
  have X0 : at_ (ix2 i j) (xm (k0_pay11 g) (pos (k0_pay11 g) (k0_pay9 v) 0xBF800000#32)) = Spec.X (8 * (g 0).val + i.val) r 0 := by
    rw [xm_at, pos_at _ _ Axis.lit_m1 _ hx (rot_x v _ hr), hx]; rfl
  have X2 : at_ (ix2 i j) (xp (k0_pay11 g) (pos (k0_pay11 g) (k0_pay9 v) 0x3F800000#32)) = Spec.X (8 * (g 0).val + i.val) r 2 := by
    rw [xp_at, pos_at _ _ Axis.lit_1 _ hx (rot_x v _ hr), hx]; rfl
  have Y0 : at_ (ix2 i j) (ym k0_pay12 (pos k0_pay12 (k0_pay10 v) 0xBF800000#32)) = Spec.Y j.val r 0 := by
    rw [ym_at, pos_at _ _ Axis.lit_m1 _ hy (rot_y v _ hr), hy]; rfl
  have Y2 : at_ (ix2 i j) (yp k0_pay12 (pos k0_pay12 (k0_pay10 v) 0x3F800000#32)) = Spec.Y j.val r 2 := by
    rw [yp_at, pos_at _ _ Axis.lit_1 _ hy (rot_y v _ hr), hy]; rfl
  have key : ∀ L : List (Fin 8 × Fin 7 × FVec Ideal S8x224 .bf16), L ≠ [] → addUp S i L (ix2 c j)
      = (L.map fun u => (u.2.2 (ix2 i j) * f (8 * (g 0).val + i.val + u.1.val) (j.val + u.2.1.val) : EReal)).sum := by
    intro L hL
    rw [addUp_at S i c j L hL]
    simp only [hS]
  let f' : Fin 8 → Fin 7 → EReal := fun d d' => f (8 * (g 0).val + i.val + d.val) (j.val + d'.val)
  have keyC : ∀ A B, cross A B ≠ [] → addUp S i (cross A B) (ix2 c j)
      = ((at_ (ix2 i j) A).map fun u => ((at_ (ix2 i j) B).map fun v => u.2 * v.2 * f' u.1 v.1).sum).sum :=
    fun A B h => (key _ h).trans (cross_at A B _ f')
  have keyX : ∀ A, onX A ≠ [] → addUp S i (onX A) (ix2 c j)
      = ((at_ (ix2 i j) A).map fun u => (([(⟨3, by decide⟩, 1)] : List (Fin 7 × EReal)).map fun v => u.2 * v.2 * f' u.1 v.1).sum).sum :=
    fun A h => (key _ h).trans (onX_at A _ f')
  have keyY : ∀ B, onY B ≠ [] → addUp S i (onY B) (ix2 c j)
      = (([(⟨3, by decide⟩, 1)] : List (Fin 8 × EReal)).map fun u => ((at_ (ix2 i j) B).map fun v => u.2 * v.2 * f' u.1 v.1).sum).sum :=
    fun B h => (key _ h).trans (onY_at B _ f')
  match b, a with
  | 0, 0 => rw [← X0, ← Y0]; exact keyC _ _ (by simp [cross, xm, xp, ym, yp])
  | 0, 1 => rw [← X0]; exact keyX _ (by simp [onX, xm, xp])
  | 0, 2 => rw [← X0, ← Y2]; exact keyC _ _ (by simp [cross, xm, xp, ym, yp])
  | 1, 0 => rw [← Y0]; exact keyY _ (by simp [onY, ym, yp])
  | 1, 1 =>
    show (shapeCast S96x224 (S ⟨3, by decide⟩ ⟨3, by decide⟩) _ (ix2 c j) : EReal) = _
    rw [shapeCast_apply _ _ (ix2 c j) (ix3 (0 : Fin 1) c j) (by simp [Shape.rowMajor_val_two, Shape.rowMajor_val_three]), hS]
    simp [Spec.X, Spec.Y]
  | 1, 2 => rw [← Y2]; exact keyY _ (by simp [onY, ym, yp])
  | 2, 0 => rw [← X2, ← Y0]; exact keyC _ _ (by simp [cross, xm, xp, ym, yp])
  | 2, 1 => rw [← X2]; exact keyX _ (by simp [onX, xm, xp])
  | 2, 2 => rw [← X2, ← Y2]; exact keyC _ _ (by simp [cross, xm, xp, ym, yp])

end Cert.KernelIdeal.Taps

end

end
-- ==== Proof.Block.lean ====
/- THE BLOCK A GRID POINT LEAVES, at one index: the samples the scratch holds for the row, and their product with the
   weights plus the bias. -/
module

public import proofs.«01_k».proof.Proof.Coeff
public import Idealize.ShloMosaic.Lib.MatmulPlain
public import Idealize.ShloMosaic.Lib.WholeRead

@[expose] public section

noncomputable section

namespace Cert.KernelIdeal.Taps

open Cert.KernelIdeal Cert.KernelIdeal.Gen Idealize.ShloMosaic Idealize.ShloMosaic.TcCoe

section
variable (g : grid0.Coords) (arg1 : Memref sig .tc .vmem S8x224 .f32) (harg1 : arg1.IsWhole) (arg2 : Memref sig .tc .vmem S8x96x230 .bf16) (harg2 : arg2.IsWhole) (arg3 : Memref sig .tc .vmem S8x96x230 .bf16) (harg3 : arg3.IsWhole)
  (x0 : Vec Ideal S8x224 .f32) (x1 : Vec Ideal S8x96x230 .bf16) (x2 : Vec Ideal S8x96x230 .bf16)

/-- The angles the body loads are the staged block. -/
theorem angles_at (i : Fin 8) (j : Fin 224) : angles arg1 harg1 x0 (ix2 i j) = x0 (ix2 i j) := by
  unfold angles
  refine (harg1.readAt_unread x0 _ _).trans (congrArg x0 (funext fun a => Fin.ext ?_))
  refine (Rect.idx_unit_val _ _ _ _ _).trans ?_
  fin_cases a <;> simp

/-- The image row a tap reads, at a channel and a column: the row of the two staged blocks, one over the other. -/
theorem slab_at (F : ℕ → ℕ → EReal) (c : Fin 96) (H1 : ∀ (a : Fin 8) (q : Fin 230), x1 (ix3 a c q) = F (8 * (g 0).val + a.val) q.val)
    (H2 : ∀ (a : Fin 8) (q : Fin 230), x2 (ix3 a c q) = F (8 * (g 0).val + 8 + a.val) q.val)
    (i di : Fin 8) (dj : Fin 7) (j : Fin 224) :
    slab arg2 harg2 arg3 harg3 x1 x2 i di dj (ix3 0 c j) = F (8 * (g 0).val + i.val + di.val) (j.val + dj.val) := by
  have hi := i.isLt
  have hd := di.isLt
  have hj := j.isLt
  have hdj := dj.isLt
  unfold slab
  by_cases h : i.val + di.val < 8
  · rw [dif_pos h]
    refine (harg2.readAt_unread x1 _ _).trans ?_
    refine (congrArg x1 (a₂ := ix3 (⟨i.val + di.val, h⟩ : Fin 8) c (⟨j.val + dj.val, by omega⟩ : Fin 230)) (funext fun a => Fin.ext ?_)).trans ((H1 _ _).trans ?_)
    · refine (Rect.idx_unit_val _ _ _ _ _).trans ?_
      fin_cases a <;> simp [Nat.add_comm]
    · show F _ _ = F _ _
      congr 1; dsimp only; omega
  · rw [dif_neg h]
    refine (harg3.readAt_unread x2 _ _).trans ?_
    refine (congrArg x2 (a₂ := ix3 (⟨i.val + di.val - 8, by omega⟩ : Fin 8) c (⟨j.val + dj.val, by omega⟩ : Fin 230)) (funext fun a => Fin.ext ?_)).trans ((H2 _ _).trans ?_)
    · refine (Rect.idx_unit_val _ _ _ _ _).trans ?_
      fin_cases a <;> simp [Nat.add_comm]
    · show F _ _ = F _ _
      congr 1; dsimp only; omega

/-- Every store of the first `n` rows is a tap's. -/
theorem mem_stores {F : FTy → Type} [FloatOps F] (y0 : Vec F S8x224 .f32) (y1 y2 : Vec F S8x96x230 .bf16) (n : ℕ) (h : n ≤ 8)
    (p : View.Piece (Elt F) S8x864x224 .bf16) (hp : p ∈ stores g arg1 harg1 arg2 harg2 arg3 harg3 y0 y1 y2 n h) :
    ∃ i k, p = piece g arg1 harg1 arg2 harg2 arg3 harg3 y0 y1 y2 i k := by
  induction n with
  | zero => exact absurd hp List.not_mem_nil
  | succ n ih =>
    unfold stores rowOver at hp
    simp only [List.mem_cons] at hp
    rcases hp with e | e | e | e | e | e | e | e | e | e
    all_goals first | exact ⟨_, _, e⟩ | exact ih _ e

/-- The stores through row `i` hold all nine of row `i`. -/
theorem stores_mem {F : FTy → Type} [FloatOps F] (y0 : Vec F S8x224 .f32) (y1 y2 : Vec F S8x96x230 .bf16) (i : Fin 8) (k : Fin 9) :
    piece g arg1 harg1 arg2 harg2 arg3 harg3 y0 y1 y2 i k
      ∈ stores g arg1 harg1 arg2 harg2 arg3 harg3 y0 y1 y2 (i.val + 1) i.isLt := by
  unfold stores rowOver
  simp only [List.mem_cons]
  match k with
  | 0 => simp
  | 1 => simp
  | 2 => simp
  | 3 => simp
  | 4 => simp
  | 5 => simp
  | 6 => simp
  | 7 => simp
  | 8 => simp

/-- The samples read back, at tap `k`, channel `c`, column `j`. -/
theorem sampleRow_at (arg7 : Memref sig .tc .vmem S8x864x224 .bf16) (i : Fin 8) (k : Fin 9) (c : Fin 96) (j : Fin 224)
    (n : Fin 864) (hn : n.val = 96 * k.val + c.val) :
    sampleRow arg7 i (stores g arg1 harg1 arg2 harg2 arg3 harg3 x0 x1 x2 (i.val + 1) i.isLt) (ix3 0 n j)
      = tap g arg1 harg1 arg2 harg2 arg3 harg3 x0 x1 x2 i k.val (ix2 c j) := by
  have hc := c.isLt
  have hk := k.isLt
  unfold sampleRow
  rw [View.readCov_eq_canon']
  have ei : (Rect.unit (s := S8x864x224) ![i.val, 0, 0] S1x864x224.size (inb_row i)).toLoadRect.idx (ix3 (0 : Fin 1) n j) = ix3 i n j := by
    funext a; apply Fin.ext
    refine (Rect.idx_unit_val _ _ _ _ _).trans ?_
    fin_cases a <;> simp
  show View.canon _ (LoadRect.idx _ _) = _
  rw [ei]
  refine View.canon_eq_of_allAt _ _ _ ⟨_, stores_mem g arg1 harg1 arg2 harg2 arg3 harg3 x0 x1 x2 i k, ?_⟩ ?_
  · show _ ∈ (Rect.unit (s := S8x864x224) ![i.val, 96 * k.val, 0] S1x96x224.size (inb_piece i k)).set
    rw [Rect.mem_set_unit]
    intro a
    have hj := j.isLt
    match a with
    | 0 => exact ⟨le_refl _, Nat.lt_succ_self _⟩
    | 1 => exact ⟨show 96 * k.val ≤ n.val by omega, show n.val < 96 * k.val + 96 by omega⟩
    | 2 => exact ⟨Nat.zero_le _, show j.val < 0 + 224 by omega⟩
  · intro p hp x hx
    obtain ⟨i', k', rfl⟩ := mem_stores g arg1 harg1 arg2 harg2 arg3 harg3 x0 x1 x2 _ _ p hp
    have hx' : (Rect.unit (s := S8x864x224) ![i'.val, 96 * k'.val, 0] S1x96x224.size (inb_piece i' k')).emb x = ix3 i n j := hx
    have hv : ∀ a : Fin 3, (![i'.val, 96 * k'.val, 0] : Fin 3 → ℕ) a + (x a).val = ((ix3 i n j : S8x864x224.Idx) a).val := fun a => by
      rw [← hx']; exact (ValueKit.rect_emb_unit_val (s := S8x864x224) ![i'.val, 96 * k'.val, 0] S1x96x224.size (inb_piece i' k') x a).symm
    have h0 : i'.val + (x 0).val = i.val := hv 0
    have h1 : 96 * k'.val + (x 1).val = n.val := hv 1
    have h2 : 0 + (x 2).val = j.val := hv 2
    have b0 : (x 0).val < 1 := (x 0).isLt
    have b1 : (x 1).val < 96 := (x 1).isLt
    have e0 : i' = i := Fin.ext (by omega)
    have e1 : k' = k := Fin.ext (by omega)
    subst e0 e1
    show shapeCast S1x96x224 _ _ x = _
    refine shapeCast_apply _ _ x (ix2 c j) ?_
    rw [Shape.rowMajor_val_two, Shape.rowMajor_val_three]
    show c.val * 224 + j.val = ((x 0).val * 96 + (x 1).val) * 224 + (x 2).val
    omega

/-- A block of weights times the samples plus the bias, at an index. -/
theorem outRow_at (w : Vec Ideal S96x864 .bf16) (b : Vec Ideal S96x1 .f32) (s : Vec Ideal S1x864x224 .bf16) (o : Fin 96) (j : Fin 224) :
    outRow w b s (ix3 o 0 j) = (∑ n : Fin 864, (w (ix2 o n) * s (ix3 0 n j) : EReal)) + b (ix2 o 0) := by
  unfold outRow
  rw [shapeCast_apply _ _ (ix3 o (0 : Fin 1) j) (ix2 o j) (by simp [Shape.rowMajor_val_two, Shape.rowMajor_val_three])]
  refine (congrArg₂ (· + ·) (Ideal.matmul_plain_apply (φ₁ := .bf16) (φ₂ := .bf16) none _ _ _ o j)
    (broadcastTo_apply _ _ (ix2 o j) (ix2 o (0 : Fin 1)) (by intro a; fin_cases a <;> rfl))).trans ?_
  rw [shapeCast_self, shapeCast_self]
  have z : (constant S96x224 .f32 0x00000000#32 : FVec Ideal S96x224 .f32) (ix2 o j) = 0 := Axis.lit_0
  refine (congrArg₂ (· + ·) ((congrArg₂ (· + ·) z rfl).trans (zero_add _)) rfl).trans ?_
  refine congrArg₂ (· + ·) ?_ rfl
  refine Finset.sum_congr rfl fun n _ => ?_
  refine congrArg₂ (· * ·) rfl ?_
  exact (shapeCast_apply s _ (ix2 n j) (ix3 (0 : Fin 1) n j) (by simp [Shape.rowMajor_val_two, Shape.rowMajor_val_three]))

variable (c : Dev nD) (arg4 : Memref sig .tc .vmem S96x864 .bf16) (harg4 : arg4.IsWhole) (arg5 : Memref sig .tc .vmem S96x1 .f32) (harg5 : arg5.IsWhole)
  (arg6 : Memref sig .tc .vmem S96x8x224 .f32) (harg6 : arg6.IsWhole) (arg7 : Memref sig .tc .vmem S8x864x224 .bf16) (harg7 : arg7.IsWhole)
  (x3 : Vec Ideal S96x864 .bf16) (x4 : Vec Ideal S96x1 .f32)

/-- Every store of the output is a row's. -/
theorem mem_outPieces (p : View.Piece (Elt Ideal) S96x8x224 .f32)
    (hp : p ∈ outPieces g arg1 harg1 arg2 harg2 arg3 harg3 x0 x1 x2 arg4 harg4 arg5 harg5 arg7 x3 x4) :
    ∃ i : Fin 8, p = outPiece arg4 harg4 arg5 harg5 arg7 x3 x4 i
      (stores g arg1 harg1 arg2 harg2 arg3 harg3 x0 x1 x2 (i.val + 1) i.isLt) := by
  unfold outPieces at hp
  simp only [List.mem_cons, List.not_mem_nil, or_false] at hp
  rcases hp with e | e | e | e | e | e | e | e
  all_goals exact ⟨_, e⟩

/-- The block the body leaves, at an index, over the row's taps. -/
theorem block_taps (o : Fin 96) (i : Fin 8) (j : Fin 224) :
    out0_A_5 c g arg1 harg1 arg2 harg2 arg3 harg3 arg4 harg4 arg5 harg5 arg6 harg6 arg7 harg7 x0 x1 x2 x3 x4 (ix3 o i j)
      = (∑ n : Fin 864, (x3 (ix2 o n) * sampleRow arg7 i (stores g arg1 harg1 arg2 harg2 arg3 harg3 x0 x1 x2 (i.val + 1) i.isLt) (ix3 0 n j) : EReal))
        + x4 (ix2 o 0) := by
  have cov := cover0_A_5 c g arg1 harg1 arg2 harg2 arg3 harg3 arg4 harg4 arg5 harg5 arg6 harg6 arg7 harg7 x0 x1 x2 x3 x4 (ix3 o i j)
  unfold out0_A_5
  rw [run_pieces] at cov ⊢
  rw [View.read_writes_junk_eq_canon]
  refine View.canon_eq_of_allAt _ _ _ cov ?_
  intro p hp x hx
  obtain ⟨i', rfl⟩ := mem_outPieces g arg1 harg1 arg2 harg2 arg3 harg3 x0 x1 x2 arg4 harg4 arg5 harg5 arg7 x3 x4 p hp
  have hx' : (Rect.unit (s := S96x8x224) ![0, i'.val, 0] S96x1x224.size (inb_out i')).emb x = ix3 o i j := hx
  have hv : ∀ a : Fin 3, (![0, i'.val, 0] : Fin 3 → ℕ) a + (x a).val = ((ix3 o i j : S96x8x224.Idx) a).val := fun a => by
    rw [← hx']; exact (ValueKit.rect_emb_unit_val (s := S96x8x224) ![0, i'.val, 0] S96x1x224.size (inb_out i') x a).symm
  have h0 : 0 + (x 0).val = o.val := hv 0
  have h1 : i'.val + (x 1).val = i.val := hv 1
  have h2 : 0 + (x 2).val = j.val := hv 2
  have b1 : (x 1).val < 1 := (x 1).isLt
  have e1 : i' = i := Fin.ext (by omega)
  subst e1
  have ex : x = (ix3 o (0 : Fin 1) j : S96x1x224.Idx) := by
    funext a; apply Fin.ext
    match a with
    | 0 => exact (Nat.zero_add _).symm.trans h0
    | 1 => show (x 1).val = 0; omega
    | 2 => exact (Nat.zero_add _).symm.trans h2
  subst ex
  refine (outRow_at _ _ _ o j).trans ?_
  have r3 : ∀ y, View.readAt (Elt Ideal) arg4.view (Rect.unit (s := S96x864) ![0, 0] S96x864.size inb_S96x864_S96x864_0_0).toLoadRect (harg4.unread x3) y = x3 y := fun y => by
    refine (harg4.readAt_unread x3 _ _).trans (congrArg x3 (funext fun a => Fin.ext ?_))
    refine (Rect.idx_unit_val _ _ _ _ _).trans ?_
    fin_cases a <;> simp
  have r4 : ∀ y, View.readAt (Elt Ideal) arg5.view (Rect.unit (s := S96x1) ![0, 0] S96x1.size inb_S96x1_S96x1_0_0).toLoadRect (harg5.unread x4) y = x4 y := fun y => by
    refine (harg5.readAt_unread x4 _ _).trans (congrArg x4 (funext fun a => Fin.ext ?_))
    refine (Rect.idx_unit_val _ _ _ _ _).trans ?_
    fin_cases a <;> simp
  rw [r4]
  congr 1
  exact Finset.sum_congr rfl fun n _ => by rw [r3]

end

/-- A sum over the 864 products is one over the taps `3 b + a` and the channels. -/
theorem sum_taps (f : Fin 864 → EReal) :
    ∑ n, f n = ∑ c : Fin 96, ∑ a : Fin 3, ∑ b : Fin 3, f ⟨96 * (3 * b.val + a.val) + c.val, by omega⟩ := by
  have e : ∑ n, f n = ∑ q : Fin 96 × (Fin 3 × Fin 3), f ⟨96 * (3 * q.2.2.val + q.2.1.val) + q.1.val, by omega⟩ := by
    symm
    refine Fintype.sum_bijective (fun q : Fin 96 × (Fin 3 × Fin 3) => (⟨96 * (3 * q.2.2.val + q.2.1.val) + q.1.val, by omega⟩ : Fin 864)) ⟨?_, ?_⟩ _ _ (fun _ => rfl)
    · rintro ⟨c, a, b⟩ ⟨c', a', b'⟩ h
      have h' : 96 * (3 * b.val + a.val) + c.val = 96 * (3 * b'.val + a'.val) + c'.val := congrArg Fin.val h
      refine Prod.ext (Fin.ext (by dsimp only; omega)) (Prod.ext (Fin.ext (by dsimp only; omega)) (Fin.ext (by dsimp only; omega)))
    · intro n
      exact ⟨(⟨n.val % 96, by omega⟩, ⟨n.val / 96 % 3, by omega⟩, ⟨n.val / 96 / 3, by omega⟩), Fin.ext (by dsimp only; omega)⟩
  rw [e, Fintype.sum_prod_type]
  refine Finset.sum_congr rfl fun c _ => ?_
  rw [Fintype.sum_prod_type]

/-- The block the body leaves at an index, when the staged blocks are the angles, the padded image's rows and the weights. -/
theorem block_at (g : grid0.Coords) (arg1 : Memref sig .tc .vmem S8x224 .f32) (harg1 : arg1.IsWhole) (arg2 : Memref sig .tc .vmem S8x96x230 .bf16) (harg2 : arg2.IsWhole) (arg3 : Memref sig .tc .vmem S8x96x230 .bf16) (harg3 : arg3.IsWhole)
    (x0 : Vec Ideal S8x224 .f32) (x1 : Vec Ideal S8x96x230 .bf16) (x2 : Vec Ideal S8x96x230 .bf16)
    (c : Dev nD) (arg4 : Memref sig .tc .vmem S96x864 .bf16) (harg4 : arg4.IsWhole) (arg5 : Memref sig .tc .vmem S96x1 .f32) (harg5 : arg5.IsWhole)
    (arg6 : Memref sig .tc .vmem S96x8x224 .f32) (harg6 : arg6.IsWhole) (arg7 : Memref sig .tc .vmem S8x864x224 .bf16) (harg7 : arg7.IsWhole)
    (x3 : Vec Ideal S96x864 .bf16) (x4 : Vec Ideal S96x1 .f32) (F : Fin 96 → ℕ → ℕ → EReal)
    (H1 : ∀ (ch : Fin 96) (a : Fin 8) (q : Fin 230), x1 (ix3 a ch q) = F ch (8 * (g 0).val + a.val) q.val)
    (H2 : ∀ (ch : Fin 96) (a : Fin 8) (q : Fin 230), x2 (ix3 a ch q) = F ch (8 * (g 0).val + 8 + a.val) q.val)
    (o : Fin 96) (i : Fin 8) (j : Fin 224) {r : ℝ} (hr : x0 (ix2 i j) = (r : EReal)) (h0 : 0 ≤ r) (h1 : r ≤ 1) :
    out0_A_5 c g arg1 harg1 arg2 harg2 arg3 harg3 arg4 harg4 arg5 harg5 arg6 harg6 arg7 harg7 x0 x1 x2 x3 x4 (ix3 o i j)
      = (∑ ch : Fin 96, ∑ a : Fin 3, ∑ b : Fin 3, (x3 (ix2 o (⟨96 * (3 * b.val + a.val) + ch.val, by omega⟩ : Fin 864))
          * Spec.samp (F ch) (Spec.px (8 * (g 0).val + i.val) r b) (Spec.py j.val r a) : EReal)) + x4 (ix2 o 0) := by
  rw [block_taps, sum_taps]
  refine congrArg₂ (· + ·) ?_ rfl
  refine Finset.sum_congr rfl fun ch _ => Finset.sum_congr rfl fun a _ => Finset.sum_congr rfl fun b _ => ?_
  refine congrArg₂ (· * ·) rfl ?_
  rw [sampleRow_at g arg1 harg1 arg2 harg2 arg3 harg3 x0 x1 x2 arg7 i (⟨3 * b.val + a.val, by omega⟩ : Fin 9) ch j _ rfl]
  unfold tap
  exact taps_at g _ _ i ch j ((angles_at arg1 harg1 x0 i j).trans hr) h0 h1 (F ch)
    (fun d d' => slab_at g arg2 harg2 arg3 harg3 x1 x2 (F ch) ch (H1 ch) (H2 ch) i d d' j) b a

end Cert.KernelIdeal.Taps

end

end
-- ==== Proof.Host.lean ====
/- WHAT THE HOST OPERATIONS HAND TO THE KERNEL, at one index: the padded image, the angles, the three by three kernels
   laid out as a matrix, and the bias, each as a function of the program's arguments. -/
module

public import proofs.«01_k».proof.Proof.Spec
public import proofs.«01_k».proof.Proof.Gen.KernelIdeal.Value
public import Idealize.ShloMosaic.Lib.StableHlo.RunClose
public import Idealize.ShloMosaic.Lib.KernelVsHost
public import Idealize.ShloMosaic.Lib.ValueIdxCore
public import Idealize.ShloMosaic.Lib.Pointwise.Index

@[expose] public section

set_option maxRecDepth 16384

noncomputable section

namespace Cert.KernelIdeal.Host

open Cert.KernelIdeal Cert.KernelIdeal.Gen Idealize.ShloMosaic Idealize.ShloMosaic.TcCoe Idealize.ShloMosaic.StableHlo

variable (m : (ℓ : Loc nD τ sig) → Buf (Elt Ideal) ℓ) (c : Dev nD)

/-! ## The arrays as functions of the arguments -/

/-- The image with rows in front, padded with zeros: three rows and columns before, five rows and three columns after. -/
def image (x : FVec Ideal S1x96x224x224 .f32) : FVec Ideal S232x96x230 .f32 :=
  pad S232x96x230 ![3, 0, 3] ![5, 0, 3] ![0, 0, 0]
    (transpose S224x96x224 [1, 0, 2] (shapeCast S96x224x224 x shapeCasts_S1x96x224x224_S96x224x224)
      transposes_S96x224x224_S224x96x224_1_0_2)
    (sitofp .f32 (constantI S_ 32 0#32)) pads_S224x96x224_S232x96x230_350_000_330 h_S_

/-- The top rows of the kernels. -/
def top (w : FVec Ideal S96x96x3x3 .f32) : FVec Ideal S96x96x3 .f32 :=
  extractStridedSlice S96x96x3 ![0, 0, 0] (shapeCast S96x96x9 w shapeCasts_S96x96x3x3_S96x96x9)
    slices_S96x96x9_S96x96x3_0_0_0

/-- The bottom rows of the kernels. -/
def bot (w : FVec Ideal S96x96x3x3 .f32) : FVec Ideal S96x96x3 .f32 :=
  extractStridedSlice S96x96x3 ![0, 0, 6] (shapeCast S96x96x9 w shapeCasts_S96x96x3x3_S96x96x9)
    slices_S96x96x9_S96x96x3_0_0_6

/-- The kernels with the middle row replaced by minus the sum of the other two. -/
def buffed (w : FVec Ideal S96x96x3x3 .f32) : FVec Ideal S96x96x9 .f32 :=
  concatenate S96x96x9 2 [⟨S96x96x3, top w⟩, ⟨S96x96x3, Host.negf (addf (top w) (bot w))⟩, ⟨S96x96x3, bot w⟩]
    concatenates_S96x96x3_S96x96x3_S96x96x3_S96x96x9_d2

/-- The order the taps are taken in. -/
def order : IVec S9 32 :=
  select (cmpi .slt (fun i => lit0 (S9.rowMajor i)) (broadcastInDim S9 ![] bcast_S_S9 (constantI S_ 32 0#32)))
    (addi (fun i => lit0 (S9.rowMajor i)) (broadcastInDim S9 ![] bcast_S_S9 (constantI S_ 32 9#32)))
    (fun i => lit0 (S9.rowMajor i))

/-- The kernels' taps in that order. -/
def taken (w : FVec Ideal S96x96x3x3 .f32) : FVec Ideal S96x96x9 .f32 :=
  Host.gather gather_S96x96x9_S9x1_S96x96x9_01_2_n_n_2_1_96961 (buffed w) (broadcastInDim S9x1 ![0] bcast_S9_S9x1_0 order)

/-- The matrix the kernel multiplies by. -/
def matrix (w : FVec Ideal S96x96x3x3 .f32) : FVec Ideal S96x864 .f32 :=
  shapeCast S96x864 (transpose S96x9x96 [0, 2, 1] (taken w) transposes_S96x96x9_S96x9x96_0_2_1)
    shapeCasts_S96x9x96_S96x864

theorem V_image : V m c main_v3 = truncf .bf16 (image (m ((c : Thread nD τ).loc main_arg0))) bitsLt_bf16_f32 := by
  unfold V
  simp only [hostOps0, hostOps0_1, hostOps0_2, List.flatten_cons, List.flatten_nil, List.append_nil, List.cons_append,
    List.nil_append]
  after_results_simp
  rfl

theorem V_angles : V m c main_v4 = shapeCast S224x224 (m ((c : Thread nD τ).loc main_arg1))
    shapeCasts_S1x1x224x224_S224x224 := by
  unfold V
  simp only [hostOps0, hostOps0_1, hostOps0_2, List.flatten_cons, List.flatten_nil, List.append_nil, List.cons_append,
    List.nil_append]
  after_results_simp
  rfl

theorem V_bias : V m c main_v21 = shapeCast S96x1 (m ((c : Thread nD τ).loc main_arg3)) shapeCasts_S96_S96x1 := by
  unfold V
  simp only [hostOps0, hostOps0_1, hostOps0_2, List.flatten_cons, List.flatten_nil, List.append_nil, List.cons_append,
    List.nil_append]
  after_results_simp
  rfl

theorem V_matrix : V m c main_v20 = truncf .bf16 (matrix (m ((c : Thread nD τ).loc main_arg2))) bitsLt_bf16_f32 := by
  unfold V
  simp only [hostOps0, hostOps0_1, hostOps0_2, List.flatten_cons, List.flatten_nil, List.append_nil, List.cons_append,
    List.nil_append]
  after_results_entrywise (rounds := 1) []

/-! ## The arrays at an index -/

/-- The order: tap `3b + a` of the matrix is tap `3a + b` of the kernel. -/
theorem order_at (k : Fin 9) : (order (ix1 k)).toInt.toNat = 3 * (k.val % 3) + k.val / 3 := by
  fin_cases k <;> rfl

theorem flat_at (w : FVec Ideal S96x96x3x3 .f32) (o ch : Fin 96) (a b : Fin 3) (h : 3 * a.val + b.val < 9) :
    shapeCast S96x96x9 w shapeCasts_S96x96x3x3_S96x96x9 (ix3 o ch ⟨3 * a.val + b.val, h⟩) = w (ix4 o ch a b) := by
  refine shapeCast_apply w _ _ (ix4 o ch a b) ?_
  simp [Shape.rowMajor_val_three, Shape.rowMajor_val_four]
  try omega

theorem top_at (w : FVec Ideal S96x96x3x3 .f32) (o ch : Fin 96) (b : Fin 3) : top w (ix3 o ch b) = w (ix4 o ch 0 b) := by
  unfold top
  refine (extractStridedSlice_apply _ _ _ _ (ix3 o ch ⟨3 * (0 : Fin 3).val + b.val, by simp; omega⟩) ?_).trans
    (flat_at w o ch 0 b _)
  intro a
  fin_cases a <;> simp

theorem bot_at (w : FVec Ideal S96x96x3x3 .f32) (o ch : Fin 96) (b : Fin 3) : bot w (ix3 o ch b) = w (ix4 o ch 2 b) := by
  unfold bot
  refine (extractStridedSlice_apply _ _ _ _ (ix3 o ch ⟨3 * (2 : Fin 3).val + b.val, by simp; omega⟩) ?_).trans
    (flat_at w o ch 2 b _)
  intro a
  fin_cases a <;> simp

theorem buffed_at (w : FVec Ideal S96x96x3x3 .f32) (o ch : Fin 96) (a b : Fin 3) (h : 3 * a.val + b.val < 9) :
    buffed w (ix3 o ch ⟨3 * a.val + b.val, h⟩) = Spec.buf (fun a b => w (ix4 o ch a b)) a b := by
  unfold buffed
  have off : ∀ d : Fin 3, d.cast (rfl : S96x96x3.rank = S96x96x9.rank) ≠ (2 : Fin 3) →
      ((ix3 o ch b : S96x96x3.Idx) d).val
        = ((ix3 o ch (⟨3 * a.val + b.val, h⟩ : Fin 9) : S96x96x9.Idx) (d.cast rfl)).val := by
    intro d hd
    fin_cases d
    · rfl
    · rfl
    · exact absurd rfl hd
  fin_cases a
  · refine (concatenate_apply_piece (2 : Fin S96x96x9.rank) _ _ _ 0 (by simp) S96x96x3 (top w) rfl rfl 0 rfl (ix3 o ch b) off
      (by simp)).trans ?_
    exact top_at w o ch b
  · refine (concatenate_apply_piece (2 : Fin S96x96x9.rank) _ _ _ 1 (by simp) S96x96x3 (Host.negf (addf (top w) (bot w))) rfl rfl 3 rfl (ix3 o ch b) off
      (by simp)).trans ?_
    show -(top w (ix3 o ch b) + bot w (ix3 o ch b)) = _
    rw [top_at, bot_at]
    rfl
  · refine (concatenate_apply_piece (2 : Fin S96x96x9.rank) _ _ _ 2 (by simp) S96x96x3 (bot w) rfl rfl 6 rfl (ix3 o ch b) off
      (by simp)).trans ?_
    exact bot_at w o ch b

/-- The taken taps: the last coordinate goes through the order. -/
theorem taken_at (w : FVec Ideal S96x96x3x3 .f32) (o ch : Fin 96) (k : Fin 9) (n : ℕ) (hn : n < 9)
    (h : (order (ix1 k)).toInt.toNat = n) : taken w (ix3 o ch k) = buffed w (ix3 o ch ⟨n, hn⟩) := by
  unfold taken Host.gather
  refine congrArg (buffed w) (funext fun d => Fin.ext ?_)
  show (gather_S96x96x9_S9x1_S96x96x9_01_2_n_n_2_1_96961).start (ix3 o ch k) _ d
    + (gather_S96x96x9_S9x1_S96x96x9_01_2_n_n_2_1_96961).batchCoord (ix3 o ch k) d
    + (gather_S96x96x9_S9x1_S96x96x9_01_2_n_n_2_1_96961).offCoord (ix3 o ch k) d = _
  rw [GatherDims.batchCoord_eq_zero _ _ _ List.not_mem_nil]
  have keep : ∀ d : Fin S96x96x9.rank, d ≠ 2 →
      (gather_S96x96x9_S9x1_S96x96x9_01_2_n_n_2_1_96961).start (ix3 o ch k) (broadcastInDim S9x1 ![0] bcast_S9_S9x1_0 order) d = 0 := by
    intro d hd
    unfold GatherDims.start
    exact dif_neg (fun h => hd (List.mem_singleton.mp h))
  fin_cases d
  · refine congrArg₂ (· + ·) (congrArg (· + 0) (keep 0 (by decide))) (rfl : _ = o.val) |>.trans ?_
    simp
  · refine congrArg₂ (· + ·) (congrArg (· + 0) (keep 1 (by decide))) (rfl : _ = ch.val) |>.trans ?_
    simp
  · have hm : (2 : Fin S96x96x9.rank) ∈ (gather_S96x96x9_S9x1_S96x96x9_01_2_n_n_2_1_96961).startIndexMap :=
      List.mem_singleton.mpr rfl
    have hsi : (gather_S96x96x9_S9x1_S96x96x9_01_2_n_n_2_1_96961).siIdx (ix3 o ch k)
        ⟨List.idxOf (2 : Fin S96x96x9.rank) (gather_S96x96x9_S9x1_S96x96x9_01_2_n_n_2_1_96961).startIndexMap,
          List.idxOf_lt_length_iff.2 hm⟩ = ix2 k 0 := by
      funext b
      refine Fin.ext ?_
      match b with
      | ⟨0, _⟩ => rfl
      | ⟨1, _⟩ => rfl
    have hoff : (gather_S96x96x9_S9x1_S96x96x9_01_2_n_n_2_1_96961).offCoord (ix3 o ch k) 2 = 0 :=
      GatherDims.offCoord_eq_zero _ _ _ (fun h => ((GatherDims.mem_sKept _ _).mp h).1 (List.mem_singleton.mpr rfl))
    show (gather_S96x96x9_S9x1_S96x96x9_01_2_n_n_2_1_96961).start (ix3 o ch k) _ 2 + 0
      + (gather_S96x96x9_S9x1_S96x96x9_01_2_n_n_2_1_96961).offCoord (ix3 o ch k) 2 = n
    rw [hoff]
    unfold GatherDims.start
    rw [dif_pos hm, hsi]
    have hk : broadcastInDim S9x1 ![0] bcast_S9_S9x1_0 order (ix2 k 0) = order (ix1 k) :=
      broadcastInDim_apply _ _ _ _ (ix1 k) (by intro a; fin_cases a; rfl)
    rw [hk, h]
    show min n 8 + 0 + 0 = n
    omega

/-- The matrix at row `o` and column `96 (3b + a) + ch`: the tap `(a, b)` of channel `ch`'s kernel for output `o`. -/
theorem matrix_at (w : FVec Ideal S96x96x3x3 .f32) (o ch : Fin 96) (a b : Fin 3)
    (h : 96 * (3 * b.val + a.val) + ch.val < 864) :
    matrix w (ix2 o ⟨96 * (3 * b.val + a.val) + ch.val, h⟩) = Spec.buf (fun a b => w (ix4 o ch a b)) a b := by
  unfold matrix
  have hk : 3 * b.val + a.val < 9 := by omega
  have hl : 3 * a.val + b.val < 9 := by omega
  refine (shapeCast_apply _ _ _ (ix3 o (⟨3 * b.val + a.val, hk⟩ : Fin 9) ch) ?_).trans ?_
  · simp [Shape.rowMajor_val_two, Shape.rowMajor_val_three]
    omega
  refine (transpose_apply _ _ _ _ (ix3 o ch (⟨3 * b.val + a.val, hk⟩ : Fin 9)) ?_).trans ?_
  · intro d
    fin_cases d <;> rfl
  refine (taken_at w o ch ⟨3 * b.val + a.val, hk⟩ (3 * a.val + b.val) hl ?_).trans (buffed_at w o ch a b hl)
  rw [order_at]
  show 3 * ((3 * b.val + a.val) % 3) + (3 * b.val + a.val) / 3 = _
  omega

/-- The padded image at a row, a channel and a column. -/
theorem image_at (x : FVec Ideal S1x96x224x224 .f32) (R : Fin 232) (ch : Fin 96) (Q : Fin 230) :
    image x (ix3 R ch Q) = Spec.pix (fun i j => x (ix4 0 ch i j)) R.val Q.val := by
  unfold image Spec.pix
  by_cases h : (3 ≤ R.val ∧ R.val < 227) ∧ (3 ≤ Q.val ∧ Q.val < 227)
  · rw [dif_pos h]
    refine (pad_apply_of_inside _ _ _ _ _ _ _ _
      (ix3 (⟨R.val - 3, by omega⟩ : Fin 224) ch (⟨Q.val - 3, by omega⟩ : Fin 224)) ?_).trans ?_
    · intro d
      fin_cases d <;> simp <;> omega
    refine (transpose_apply _ _ _ _ (ix3 ch (⟨R.val - 3, by omega⟩ : Fin 224) (⟨Q.val - 3, by omega⟩ : Fin 224))
      ?_).trans ?_
    · intro d
      fin_cases d <;> rfl
    refine shapeCast_apply _ _ _ (ix4 0 ch (⟨R.val - 3, by omega⟩ : Fin 224) (⟨Q.val - 3, by omega⟩ : Fin 224)) ?_
    simp [Shape.rowMajor_val_three, Shape.rowMajor_val_four]
  · rw [dif_neg h]
    have z : (sitofp .f32 (constantI S_ 32 0#32) : FVec Ideal S_ .f32) (Shape.Idx.first h_S_) = ((0 : ℝ) : EReal) := by
      show ((((0#32 : BitVec 32).toInt : ℤ) : ℝ) : EReal) = _
      simp
    by_cases hR : 3 ≤ R.val ∧ R.val < 227
    · refine (pad_apply_of_not_inside _ _ _ _ _ _ _ _ (2 : Fin 3) ?_).trans z
      simp
      omega
    · refine (pad_apply_of_not_inside _ _ _ _ _ _ _ _ (0 : Fin 3) ?_).trans z
      simp
      omega

theorem angles_at (al : FVec Ideal S1x1x224x224 .f32) (i j : Fin 224) :
    shapeCast S224x224 al shapeCasts_S1x1x224x224_S224x224 (ix2 i j) = al (ix4 0 0 i j) := by
  refine shapeCast_apply _ _ _ (ix4 0 0 i j) ?_
  simp [Shape.rowMajor_val_two, Shape.rowMajor_val_four]

theorem bias_at (b : FVec Ideal S96 .f32) (o : Fin 96) :
    shapeCast S96x1 b shapeCasts_S96_S96x1 (ix2 o 0) = b (ix1 o) := by
  refine shapeCast_apply _ _ _ (ix1 o) ?_
  simp [Shape.rowMajor_val_two, Shape.rowMajor_val_one]

end Cert.KernelIdeal.Host

end

end
-- ==== Proof.Array.lean ====
/- THE KERNEL'S RESULT ARRAY, at one index: every row block is one grid point's, and the block's value is the sum of the
   constrained kernel's taps over the bilinear samples, plus the bias. -/
module

public import proofs.«01_k».proof.Proof.Block
public import proofs.«01_k».proof.Proof.Host
public import Idealize.ShloMosaic.Lib.Pipeline.ValueKit

@[expose] public section

noncomputable section

namespace Cert.KernelIdeal.Array

open Cert.KernelIdeal Cert.KernelIdeal.Gen Idealize.ShloMosaic Idealize.ShloMosaic.TcCoe Idealize.ShloMosaic.ValueKit
open Idealize.ShloMosaic.Pipeline (Dat)

variable (m : (ℓ : Loc nD τ sig) → Buf (Elt Ideal) ℓ) (c : Dev nD)

/-- The grid has one axis: a point's coordinate is its number. -/
theorem coord (t : Fin cfg0.N) : (grid0.coords t 0).val = t.val :=
  (by decide +kernel : ∀ t : Fin grid0.N, (grid0.coords t 0).val = t.val) t

theorem index_0 (t : Fin cfg0.N) : win0_0.index t 0 = t.val ∧ win0_0.index t 1 = 0 :=
  (by decide +kernel : ∀ t : Fin grid0.N, win0_0.index t 0 = t.val ∧ win0_0.index t 1 = 0) t

theorem index_1 (t : Fin cfg0.N) : win0_1.index t 0 = t.val ∧ win0_1.index t 1 = 0 ∧ win0_1.index t 2 = 0 :=
  (by decide +kernel : ∀ t : Fin grid0.N, win0_1.index t 0 = t.val ∧ win0_1.index t 1 = 0 ∧ win0_1.index t 2 = 0) t

theorem index_2 (t : Fin cfg0.N) : win0_2.index t 0 = t.val + 1 ∧ win0_2.index t 1 = 0 ∧ win0_2.index t 2 = 0 :=
  (by decide +kernel : ∀ t : Fin grid0.N, win0_2.index t 0 = t.val + 1 ∧ win0_2.index t 1 = 0 ∧ win0_2.index t 2 = 0) t

theorem index_3 (t : Fin cfg0.N) : win0_3.index t 0 = 0 ∧ win0_3.index t 1 = 0 :=
  (by decide +kernel : ∀ t : Fin grid0.N, win0_3.index t 0 = 0 ∧ win0_3.index t 1 = 0) t

theorem index_4 (t : Fin cfg0.N) : win0_4.index t 0 = 0 ∧ win0_4.index t 1 = 0 :=
  (by decide +kernel : ∀ t : Fin grid0.N, win0_4.index t 0 = 0 ∧ win0_4.index t 1 = 0) t

theorem index_5 (t : Fin cfg0.N) : win0_5.index t 0 = 0 ∧ win0_5.index t 1 = t.val ∧ win0_5.index t 2 = 0 :=
  (by decide +kernel : ∀ t : Fin grid0.N, win0_5.index t 0 = 0 ∧ win0_5.index t 1 = t.val ∧ win0_5.index t 2 = 0) t

theorem lt_N (t : Fin cfg0.N) : t.val < 28 := t.isLt

/-- The block of angles. -/
theorem iblk_0 (t : Fin cfg0.N) (i : Fin 8) (j : Fin 224) :
    iblk m c 0 t (ix2 i j) = V m c main_v4 (ix2 (⟨8 * t.val + i.val, by have := lt_N t; omega⟩ : Fin 224) j) := by
  unfold iblk
  show V m c main_v4 ((win0_0.blk t).view.emb (ix2 i j)) = _
  refine congrArg (V m c main_v4) (funext fun d => Fin.ext ?_)
  obtain ⟨e0, e1⟩ := index_0 t
  refine (view_emb_slice_whole_unit_val main_v4 _ _ _ (ix2 i j) d).trans ?_
  fin_cases d
  · show win0_0.index t 0 * 8 + i.val = 8 * t.val + i.val
    omega
  · show win0_0.index t 1 * 224 + j.val = j.val
    omega

/-- The block of image rows. -/
theorem iblk_1 (t : Fin cfg0.N) (a : Fin 8) (ch : Fin 96) (q : Fin 230) :
    iblk m c 1 t (ix3 a ch q) = V m c main_v3 (ix3 (⟨8 * t.val + a.val, by have := lt_N t; omega⟩ : Fin 232) ch q) := by
  unfold iblk
  show V m c main_v3 ((win0_1.blk t).view.emb (ix3 a ch q)) = _
  refine congrArg (V m c main_v3) (funext fun d => Fin.ext ?_)
  obtain ⟨e0, e1, e2⟩ := index_1 t
  refine (view_emb_slice_whole_unit_val main_v3 _ _ _ (ix3 a ch q) d).trans ?_
  fin_cases d
  · show win0_1.index t 0 * 8 + a.val = 8 * t.val + a.val
    omega
  · show win0_1.index t 1 * 96 + ch.val = ch.val
    omega
  · show win0_1.index t 2 * 230 + q.val = q.val
    omega

/-- The block of image rows after it. -/
theorem iblk_2 (t : Fin cfg0.N) (a : Fin 8) (ch : Fin 96) (q : Fin 230) :
    iblk m c 2 t (ix3 a ch q) = V m c main_v3 (ix3 (⟨8 * t.val + 8 + a.val, by have := lt_N t; omega⟩ : Fin 232) ch q) := by
  unfold iblk
  show V m c main_v3 ((win0_2.blk t).view.emb (ix3 a ch q)) = _
  refine congrArg (V m c main_v3) (funext fun d => Fin.ext ?_)
  obtain ⟨e0, e1, e2⟩ := index_2 t
  refine (view_emb_slice_whole_unit_val main_v3 _ _ _ (ix3 a ch q) d).trans ?_
  fin_cases d
  · show win0_2.index t 0 * 8 + a.val = 8 * t.val + 8 + a.val
    omega
  · show win0_2.index t 1 * 96 + ch.val = ch.val
    omega
  · show win0_2.index t 2 * 230 + q.val = q.val
    omega

/-- The matrix is staged whole. -/
theorem iblk_3 (t : Fin cfg0.N) (o : Fin 96) (k : Fin 864) : iblk m c 3 t (ix2 o k) = V m c main_v20 (ix2 o k) := by
  unfold iblk
  show V m c main_v20 ((win0_3.blk t).view.emb (ix2 o k)) = _
  refine congrArg (V m c main_v20) (funext fun d => Fin.ext ?_)
  obtain ⟨e0, e1⟩ := index_3 t
  refine (view_emb_slice_whole_unit_val main_v20 _ _ _ (ix2 o k) d).trans ?_
  fin_cases d
  · show win0_3.index t 0 * 96 + o.val = o.val
    omega
  · show win0_3.index t 1 * 864 + k.val = k.val
    omega

/-- The bias is staged whole. -/
theorem iblk_4 (t : Fin cfg0.N) (o : Fin 96) : iblk m c 4 t (ix2 o (0 : Fin 1)) = V m c main_v21 (ix2 o (0 : Fin 1)) := by
  unfold iblk
  show V m c main_v21 ((win0_4.blk t).view.emb (ix2 o (0 : Fin 1))) = _
  refine congrArg (V m c main_v21) (funext fun d => Fin.ext ?_)
  obtain ⟨e0, e1⟩ := index_4 t
  refine (view_emb_slice_whole_unit_val main_v21 _ _ _ (ix2 o (0 : Fin 1)) d).trans ?_
  fin_cases d
  · show win0_4.index t 0 * 96 + o.val = o.val
    omega
  · show win0_4.index t 1 * 1 + 0 = 0
    omega

/-- The value as a function of the arguments. -/
def value (x : FVec Ideal S1x96x224x224 .f32) (al : FVec Ideal S1x1x224x224 .f32) (w : FVec Ideal S96x96x3x3 .f32)
    (b : FVec Ideal S96 .f32) (o : Fin 96) (i j : Fin 224) : EReal :=
  Spec.out (fun ch i j => x (ix4 0 ch i j)) (fun i j => al (ix4 0 0 i j)) (fun o ch a b => w (ix4 o ch a b))
    (fun o => b (ix1 o)) o i j

/-- The angles are real numbers between zero and one. -/
def Small (al : FVec Ideal S1x1x224x224 .f32) : Prop :=
  ∀ i j : Fin 224, ∃ r : ℝ, al (ix4 0 0 i j) = (r : EReal) ∧ 0 ≤ r ∧ r ≤ 1

/-- Rounding to the narrower type leaves an element as it is, in exact arithmetic. -/
theorem truncf_at {s : Shape} (x : FVec Ideal s .f32) (k : s.Idx) : truncf .bf16 x bitsLt_bf16_f32 k = x k := rfl

theorem image_block (t : Fin cfg0.N) (ch : Fin 96) (a : Fin 8) (q : Fin 230) :
    iblk m c 1 t (ix3 a ch q)
      = Spec.pix (fun i j => (m ((c : Thread nD τ).loc main_arg0)) (ix4 0 ch i j)) (8 * (grid0.coords t 0).val + a.val) q.val := by
  rw [iblk_1, Host.V_image, coord]
  exact Host.image_at _ _ ch q

theorem image_next (t : Fin cfg0.N) (ch : Fin 96) (a : Fin 8) (q : Fin 230) :
    iblk m c 2 t (ix3 a ch q)
      = Spec.pix (fun i j => (m ((c : Thread nD τ).loc main_arg0)) (ix4 0 ch i j)) (8 * (grid0.coords t 0).val + 8 + a.val) q.val := by
  rw [iblk_2, Host.V_image, coord]
  exact Host.image_at _ _ ch q

theorem angle_block (t : Fin cfg0.N) (i : Fin 8) (j : Fin 224) :
    iblk m c 0 t (ix2 i j)
      = (m ((c : Thread nD τ).loc main_arg1)) (ix4 0 0 (⟨8 * t.val + i.val, by have := lt_N t; omega⟩ : Fin 224) j) := by
  rw [iblk_0, Host.V_angles]
  exact Host.angles_at _ _ _

theorem matrix_block (t : Fin cfg0.N) (o ch : Fin 96) (a b : Fin 3) (h : 96 * (3 * b.val + a.val) + ch.val < 864) :
    iblk m c 3 t (ix2 o ⟨96 * (3 * b.val + a.val) + ch.val, h⟩)
      = Spec.buf (fun a b => (m ((c : Thread nD τ).loc main_arg2)) (ix4 o ch a b)) a b := by
  refine (iblk_3 m c t o _).trans ((congrFun (Host.V_matrix m c) _).trans ((truncf_at _ _).trans ?_))
  exact Host.matrix_at _ o ch a b h

theorem bias_block (t : Fin cfg0.N) (o : Fin 96) :
    iblk m c 4 t (ix2 o (0 : Fin 1)) = (m ((c : Thread nD τ).loc main_arg3)) (ix1 o) := by
  refine (iblk_4 m c t o).trans ?_
  exact (congrFun (Host.V_bias m c) _).trans (Host.bias_at _ o)

/-- What the body leaves at a grid point, at an index of its block. -/
theorem left_at (hs : Small (m ((c : Thread nD τ).loc main_arg1))) (t : Fin cfg0.N) (o : Fin 96) (i : Fin 8) (j : Fin 224) :
    outsAt0 m c t (ix3 o i j)
      = value (m ((c : Thread nD τ).loc main_arg0)) (m ((c : Thread nD τ).loc main_arg1))
          (m ((c : Thread nD τ).loc main_arg2)) (m ((c : Thread nD τ).loc main_arg3)) o
          ⟨8 * t.val + i.val, by have := lt_N t; omega⟩ j := by
  have ht := lt_N t
  obtain ⟨r, hr, h0, h1⟩ := hs ⟨8 * t.val + i.val, by omega⟩ j
  unfold outsAt0
  refine (Taps.block_at (grid0.coords t) _ _ _ _ _ _ _ _ _ c _ _ _ _ _ _ _ _ _ _ _ (image_block m c t) (image_next m c t)
    o i j (r := r) ((angle_block m c t i j).trans hr) h0 h1).trans ?_
  unfold value Spec.out
  refine congrArg₂ (· + ·) ?_ (bias_block m c t o)
  refine Finset.sum_congr rfl fun ch _ => Finset.sum_congr rfl fun a _ => Finset.sum_congr rfl fun b _ => ?_
  refine congrArg₂ (· * ·) (matrix_block m c t o ch a b _) ?_
  show Spec.samp _ (Spec.px (8 * (grid0.coords t 0).val + i.val) r b) (Spec.py j.val r a)
    = Spec.samp _ (Spec.px (8 * t.val + i.val) ((m ((c : Thread nD τ).loc main_arg1)) (ix4 0 0 (⟨8 * t.val + i.val, by omega⟩ : Fin 224) j)).toReal b)
        (Spec.py j.val ((m ((c : Thread nD τ).loc main_arg1)) (ix4 0 0 (⟨8 * t.val + i.val, by omega⟩ : Fin 224) j)).toReal a)
  rw [hr, EReal.toReal_coe, coord]

/-- Every index of the result is in some point's block. -/
theorem covers : (cfg0.win 5).Covers := by decide +kernel

/-- The whole result. -/
def whole (x : FVec Ideal S1x96x224x224 .f32) (al : FVec Ideal S1x1x224x224 .f32) (w : FVec Ideal S96x96x3x3 .f32)
    (b : FVec Ideal S96 .f32) : FVec Ideal S96x224x224 .f32 := fun k => value x al w b (k 0) (k 1) (k 2)

theorem whole_at (x : FVec Ideal S1x96x224x224 .f32) (al : FVec Ideal S1x1x224x224 .f32) (w : FVec Ideal S96x96x3x3 .f32)
    (b : FVec Ideal S96 .f32) (k : S96x224x224.Idx) (o : Fin 96) (i j : Fin 224) (h0 : (k 0).val = o.val)
    (h1 : (k 1).val = i.val) (h2 : (k 2).val = j.val) : whole x al w b k = value x al w b o i j := by
  have e0 : k 0 = o := Fin.ext h0
  have e1 : k 1 = i := Fin.ext h1
  have e2 : k 2 = j := Fin.ext h2
  unfold whole
  rw [e0, e1, e2]

/-- A grid point's block sits in the result at its rows. -/
theorem placed (t : Fin cfg0.N) (y : S96x8x224.Idx) :
    (((win0_5.blk t).view.emb y : S96x224x224.Idx) 0).val = (y 0).val
      ∧ (((win0_5.blk t).view.emb y : S96x224x224.Idx) 1).val = 8 * t.val + (y 1).val
      ∧ (((win0_5.blk t).view.emb y : S96x224x224.Idx) 2).val = (y 2).val := by
  obtain ⟨e0, e1, e2⟩ := index_5 t
  refine ⟨(view_emb_slice_whole_unit_val main_v22 _ _ _ y 0).trans ?_,
    (view_emb_slice_whole_unit_val main_v22 _ _ _ y 1).trans ?_, (view_emb_slice_whole_unit_val main_v22 _ _ _ y 2).trans ?_⟩
  · show win0_5.index t 0 * 96 + (y 0).val = (y 0).val
    omega
  · show win0_5.index t 1 * 8 + (y 1).val = 8 * t.val + (y 1).val
    omega
  · show win0_5.index t 2 * 224 + (y 2).val = (y 2).val
    omega

theorem left_whole (hs : Small (m ((c : Thread nD τ).loc main_arg1))) (t : Fin cfg0.N) (y : S96x8x224.Idx) :
    outsAt0 m c t y = whole (m ((c : Thread nD τ).loc main_arg0)) (m ((c : Thread nD τ).loc main_arg1))
          (m ((c : Thread nD τ).loc main_arg2)) (m ((c : Thread nD τ).loc main_arg3)) ((win0_5.blk t).view.emb y) := by
  have hy : y = ix3 (y 0) (y 1) (y 2) := funext fun d => by
    match d with
    | ⟨0, _⟩ => rfl
    | ⟨1, _⟩ => rfl
    | ⟨2, _⟩ => rfl
  obtain ⟨h0, h1, h2⟩ := placed t y
  refine (congrArg (outsAt0 m c t) hy).trans ((left_at m c hs t (y 0) (y 1) (y 2)).trans (whole_at _ _ _ _ _ _ _ _ h0 ?_ h2).symm)
  exact h1

/-- The result array after the run. -/
theorem result (hs : Small (m ((c : Thread nD τ).loc main_arg1))) :
    (dats m 0 c).arrAt 5 cfg0.N = whole (m ((c : Thread nD τ).loc main_arg0)) (m ((c : Thread nD τ).loc main_arg1))
          (m ((c : Thread nD τ).loc main_arg2)) (m ((c : Thread nD τ).loc main_arg3)) := by
  refine (dats m 0 c).arrAt_eq_of_covers 5 _ covers fun t hf y => ?_
  refine Eq.trans ?_ (left_whole m c hs t y)
  exact congrFun (after0_5 m c t) y

end Cert.KernelIdeal.Array

end

end
-- ==== Proof.RefSample.lean ====
/- THE REFERENCE'S SAMPLES, at one index: the rotated positions, their corners as words, the weights, the gathered image
   elements and the bilinear sample they make. -/
module

public import proofs.«01_k».proof.Proof.Spec
public import proofs.«01_k».proof.Proof.Gen.ReferenceIdeal.Read
public import Idealize.ShloMosaic.Lib.KernelVsHost
public import Idealize.ShloMosaic.Lib.ValueIdxCore
public import Idealize.ShloMosaic.Lib.Pointwise.Index

@[expose] public section

noncomputable section

namespace Cert.ReferenceIdeal.Sample

open Cert.ReferenceIdeal Cert.ReferenceIdeal.Gen Cert.ReferenceIdeal.Read Cert.Axis
open Idealize.ShloMosaic Idealize.ShloMosaic.TcCoe

variable (x : FVec Ideal S1x96x224x224 .f32) (al : FVec Ideal S1x1x224x224 .f32)

/-! ## Words -/

/-- The word of a small natural number's float is its word. -/
theorem fptosi_nat {q : ℕ} (h : q < 2 ^ 31) : Ideal.fptosi 32 ((q : ℝ) : EReal) = BitVec.ofNat 32 q := by
  have e : (if (0 : ℝ) ≤ (q : ℝ) then ⌊(q : ℝ)⌋ else ⌈(q : ℝ)⌉) = (q : ℤ) := by
    rw [if_pos (Nat.cast_nonneg q), Int.floor_natCast]
  unfold Ideal.fptosi
  rw [Ideal.toIntClamped_coe, e]
  have h2 : max (-((2 ^ (32 - 1) : ℕ) : ℤ)) (min (((2 ^ (32 - 1) : ℕ) : ℤ) - 1) (q : ℤ)) = (q : ℤ) := by
    have : (q : ℤ) < 2 ^ 31 := by exact_mod_cast h
    omega
  rw [h2]
  exact BitVec.ofInt_natCast 32 q

/-- A small word as a float. -/
theorem sitofp_nat {q : ℕ} (h : q < 2 ^ 31) :
    (FloatOps.sitofp (F := Ideal) .f32 (BitVec.ofNat 32 q) : EReal) = ((q : ℝ) : EReal) := by
  show ((((BitVec.ofNat 32 q).toInt : ℤ) : ℝ) : EReal) = _
  rw [toInt_small h]
  push_cast
  rfl

/-- The lower corner of a real position is one of the padded image's indices. -/
theorem lo_ind (p : ℝ) : lo (p : EReal) = ((Spec.ind (lo (p : EReal)) : ℝ) : EReal) ∧ Spec.ind (lo (p : EReal)) ≤ 225 := by
  obtain ⟨q, hq⟩ : ∃ q : ℕ, (q : ℤ) = min 225 (max 0 ⌊p⌋) := ⟨(min 225 (max 0 ⌊p⌋)).toNat, by omega⟩
  rw [lo_coe p q hq, Spec.ind_coe]
  exact ⟨rfl, by omega⟩

theorem hi_ind (p : ℝ) : hi (p : EReal) = ((Spec.ind (hi (p : EReal)) : ℝ) : EReal) ∧ Spec.ind (hi (p : EReal)) ≤ 225 := by
  obtain ⟨q, hq⟩ : ∃ q : ℕ, (q : ℤ) = min 225 (max 0 (⌊p⌋ + 1)) := ⟨(min 225 (max 0 (⌊p⌋ + 1))).toNat, by omega⟩
  rw [hi_coe p q hq, Spec.ind_coe]
  exact ⟨rfl, by omega⟩

/-! ## The positions -/

theorem angle_at (i j : Fin 224) : val_main_v2 (F := Ideal) al (ix2 i j) = al (ix4 0 0 i j) := by
  unfold val_main_v2
  refine shapeCast_apply _ _ _ (ix4 0 0 i j) ?_
  simp [Shape.rowMajor_val_two, Shape.rowMajor_val_four]

/-- The row offset of tap `3b + a`. -/
theorem row_offset (b a : Fin 3) (h : 3 * b.val + a.val < 9) :
    val_main_v8 (F := Ideal) (ix1 ⟨3 * b.val + a.val, h⟩) = (((b.val : ℝ) - 1 : ℝ) : EReal) := by
  have e : (IntOp.subi (IntOp.divsi .host (BitVec.ofNat 32 (3 * b.val + a.val)) 3#32) 1#32).toInt = (b.val : ℤ) - 1 := by
    fin_cases b <;> fin_cases a <;> decide
  rw [val_main_v8_apply, val_main_v7_apply, val_main_v5_apply, val_main_v3_apply, val_main_v4_apply, val_main_v6_apply]
  show (((IntOp.subi (IntOp.divsi .host (BitVec.ofNat 32 (3 * b.val + a.val)) 3#32) 1#32).toInt : ℝ) : EReal) = _
  rw [e]
  push_cast
  rfl

/-- The column offset of tap `3b + a`. -/
theorem col_offset (b a : Fin 3) (h : 3 * b.val + a.val < 9) :
    val_main_v13 (F := Ideal) (ix1 ⟨3 * b.val + a.val, h⟩) = (((a.val : ℝ) - 1 : ℝ) : EReal) := by
  have e : (IntOp.subi (IntOp.remsi .host (BitVec.ofNat 32 (3 * b.val + a.val)) 3#32) 1#32).toInt = (a.val : ℤ) - 1 := by
    fin_cases b <;> fin_cases a <;> decide
  rw [val_main_v13_apply, val_main_v12_apply, val_main_v10_apply, val_main_v3_apply, val_main_v9_apply, val_main_v11_apply]
  show (((IntOp.subi (IntOp.remsi .host (BitVec.ofNat 32 (3 * b.val + a.val)) 3#32) 1#32).toInt : ℝ) : EReal) = _
  rw [e]
  push_cast
  rfl

/-- One more than a small index, as a float. -/
theorem succ_at (i : Fin 224) :
    (FloatOps.sitofp (F := Ideal) .f32 (IntOp.addi (BitVec.ofNat 32 i.val) 1#32) : EReal) = (((i.val : ℝ) + 1 : ℝ) : EReal) := by
  have e : IntOp.addi (BitVec.ofNat 32 i.val) 1#32 = BitVec.ofNat 32 (i.val + 1) := by
    show BitVec.ofNat 32 i.val + BitVec.ofNat 32 1 = _
    rw [BitVec.ofNat_add]
  rw [e, sitofp_nat (by omega)]
  push_cast
  rfl

theorem row_at {r : ℝ} (i j : Fin 224) (b a : Fin 3) (h : 3 * b.val + a.val < 9) (hr : al (ix4 0 0 i j) = (r : EReal)) :
    val_main_v35 (F := Ideal) al (ix3 i j ⟨3 * b.val + a.val, h⟩) = Spec.px i.val r b := by
  have hc : val_main_v28 (F := Ideal) al (ix3 i j ⟨3 * b.val + a.val, h⟩) = ((Real.cos r : ℝ) : EReal) := by
    rw [val_main_v28_apply, val_main_v23_apply, val_main_v22_apply]
    show Ideal.cos (val_main_v2 (F := Ideal) al (ix2 i j)) = _
    rw [angle_at, hr, Ideal.cos_coe]
  have hs : val_main_v32 (F := Ideal) al (ix3 i j ⟨3 * b.val + a.val, h⟩) = ((Real.sin r : ℝ) : EReal) := by
    rw [val_main_v32_apply, val_main_v25_apply, val_main_v24_apply]
    show Ideal.sin (val_main_v2 (F := Ideal) al (ix2 i j)) = _
    rw [angle_at, hr, Ideal.sin_coe]
  have h27 : val_main_v27 (F := Ideal) (ix3 i j ⟨3 * b.val + a.val, h⟩) = (((b.val : ℝ) - 1 : ℝ) : EReal) := by
    rw [val_main_v27_apply, val_main_v26_apply]
    exact row_offset b a h
  have h31 : val_main_v31 (F := Ideal) (ix3 i j ⟨3 * b.val + a.val, h⟩) = (((b.val : ℝ) - 1 : ℝ) : EReal) := by
    rw [val_main_v31_apply, val_main_v30_apply]
    exact row_offset b a h
  have h17 : val_main_v17 (F := Ideal) (ix3 i j ⟨3 * b.val + a.val, h⟩) = (((i.val : ℝ) + 1 : ℝ) : EReal) := by
    rw [val_main_v17_apply, val_main_v16_apply, val_main_v14_apply, val_main_v15_apply]
    exact succ_at i
  rw [val_main_v35_apply, val_main_v34_apply, val_main_v29_apply, val_main_v33_apply, h17, h27, h31, hc, hs]
  show (_ : EReal) + (_ * _ + _ * _) = _
  unfold Spec.px
  rw [← EReal.coe_mul, ← EReal.coe_mul, ← EReal.coe_add, ← EReal.coe_add]
  congr 1
  ring

theorem col_at {r : ℝ} (i j : Fin 224) (b a : Fin 3) (h : 3 * b.val + a.val < 9) (hr : al (ix4 0 0 i j) = (r : EReal)) :
    val_main_v45 (F := Ideal) al (ix3 i j ⟨3 * b.val + a.val, h⟩) = Spec.py j.val r a := by
  have hc : val_main_v38 (F := Ideal) al (ix3 i j ⟨3 * b.val + a.val, h⟩) = ((Real.cos r : ℝ) : EReal) := by
    rw [val_main_v38_apply, val_main_v23_apply, val_main_v22_apply]
    show Ideal.cos (val_main_v2 (F := Ideal) al (ix2 i j)) = _
    rw [angle_at, hr, Ideal.cos_coe]
  have hs : val_main_v42 (F := Ideal) al (ix3 i j ⟨3 * b.val + a.val, h⟩) = ((Real.sin r : ℝ) : EReal) := by
    rw [val_main_v42_apply, val_main_v25_apply, val_main_v24_apply]
    show Ideal.sin (val_main_v2 (F := Ideal) al (ix2 i j)) = _
    rw [angle_at, hr, Ideal.sin_coe]
  have h37 : val_main_v37 (F := Ideal) (ix3 i j ⟨3 * b.val + a.val, h⟩) = (((a.val : ℝ) - 1 : ℝ) : EReal) := by
    rw [val_main_v37_apply, val_main_v36_apply]
    exact col_offset b a h
  have h41 : val_main_v41 (F := Ideal) (ix3 i j ⟨3 * b.val + a.val, h⟩) = (((a.val : ℝ) - 1 : ℝ) : EReal) := by
    rw [val_main_v41_apply, val_main_v40_apply]
    exact col_offset b a h
  have h21 : val_main_v21 (F := Ideal) (ix3 i j ⟨3 * b.val + a.val, h⟩) = (((j.val : ℝ) + 1 : ℝ) : EReal) := by
    rw [val_main_v21_apply, val_main_v20_apply, val_main_v18_apply, val_main_v19_apply]
    exact succ_at j
  rw [val_main_v45_apply, val_main_v44_apply, val_main_v39_apply, val_main_v43_apply, h21, h37, h41, hc, hs]
  show (_ : EReal) + (_ * _ - _ * _) = _
  unfold Spec.py
  rw [← EReal.coe_mul, ← EReal.coe_mul, ← EReal.coe_sub, ← EReal.coe_add]
  congr 1
  ring

/-! ## Corners and weights -/

theorem zero_word : (FloatOps.sitofp (F := Ideal) .f32 (0#32) : EReal) = ((0 : ℝ) : EReal) := by
  refine (sitofp_nat (q := 0) (by norm_num)).trans ?_
  norm_num

theorem last_word : (FloatOps.sitofp (F := Ideal) .f32 (225#32) : EReal) = ((225 : ℝ) : EReal) := by
  refine (sitofp_nat (q := 225) (by norm_num)).trans ?_
  norm_num

section
variable (k : S224x224x9.Idx) {p p' : ℝ}

theorem low_row (hp : val_main_v35 (F := Ideal) al k = (p : EReal)) :
    val_main_v49 (F := Ideal) al k = BitVec.ofNat 32 (Spec.ind (lo (p : EReal))) := by
  obtain ⟨e, l⟩ := lo_ind p
  rw [val_main_v49_apply, val_main_v48_apply, val_main_call1_v4_apply, val_main_call1_v2_apply, val_main_call1_v3_apply,
    val_main_call1_v1_apply, val_main_call1_v0_apply, val_main_v46_apply, hp, val_main_c_6_apply, val_main_c_7_apply,
    zero_word, last_word]
  show Ideal.fptosi 32 (lo (p : EReal)) = _
  exact (congrArg (Ideal.fptosi 32) e).trans (fptosi_nat (by omega))

theorem low_col (hp : val_main_v45 (F := Ideal) al k = (p : EReal)) :
    val_main_v51 (F := Ideal) al k = BitVec.ofNat 32 (Spec.ind (lo (p : EReal))) := by
  obtain ⟨e, l⟩ := lo_ind p
  rw [val_main_v51_apply, val_main_v50_apply, val_main_call2_v4_apply, val_main_call2_v2_apply, val_main_call2_v3_apply,
    val_main_call2_v1_apply, val_main_call2_v0_apply, val_main_v47_apply, hp, val_main_c_8_apply, val_main_c_9_apply,
    zero_word, last_word]
  show Ideal.fptosi 32 (lo (p : EReal)) = _
  exact (congrArg (Ideal.fptosi 32) e).trans (fptosi_nat (by omega))

theorem high_row (hp : val_main_v35 (F := Ideal) al k = (p : EReal)) :
    val_main_v55 (F := Ideal) al k = BitVec.ofNat 32 (Spec.ind (hi (p : EReal))) := by
  obtain ⟨e, l⟩ := hi_ind p
  rw [val_main_v55_apply, val_main_v54_apply, val_main_call3_v4_apply, val_main_call3_v2_apply, val_main_call3_v3_apply,
    val_main_call3_v1_apply, val_main_call3_v0_apply, val_main_v53_apply, val_main_v52_apply, val_main_v46_apply, hp,
    val_main_c_10_apply, val_main_c_11_apply, zero_word, last_word]
  show Ideal.fptosi 32 (min ((225 : ℝ) : EReal) (max ((0 : ℝ) : EReal)
    (Ideal.liftRound Int.floor (p : EReal) + Ideal.ofBits .f32 0x3F800000#32))) = _
  rw [lit_1]
  exact (congrArg (Ideal.fptosi 32) e).trans (fptosi_nat (by omega))

theorem high_col (hp : val_main_v45 (F := Ideal) al k = (p : EReal)) :
    val_main_v59 (F := Ideal) al k = BitVec.ofNat 32 (Spec.ind (hi (p : EReal))) := by
  obtain ⟨e, l⟩ := hi_ind p
  rw [val_main_v59_apply, val_main_v58_apply, val_main_call4_v4_apply, val_main_call4_v2_apply, val_main_call4_v3_apply,
    val_main_call4_v1_apply, val_main_call4_v0_apply, val_main_v57_apply, val_main_v56_apply, val_main_v47_apply, hp,
    val_main_c_13_apply, val_main_c_14_apply, zero_word, last_word]
  show Ideal.fptosi 32 (min ((225 : ℝ) : EReal) (max ((0 : ℝ) : EReal)
    (Ideal.liftRound Int.floor (p : EReal) + Ideal.ofBits .f32 0x3F800000#32))) = _
  rw [lit_1]
  exact (congrArg (Ideal.fptosi 32) e).trans (fptosi_nat (by omega))

/-- The weight of a lower corner as the reference writes it. -/
theorem weight_low (p : ℝ) :
    Ideal.ofBits .f32 0x3F800000#32
        + Ideal.ofBits .f32 0x3F800000#32 * ((FloatOps.sitofp (F := Ideal) .f32 (BitVec.ofNat 32 (Spec.ind (lo (p : EReal)))) : EReal) - (p : EReal))
      = wlo (p : EReal) := by
  obtain ⟨e, l⟩ := lo_ind p
  rw [sitofp_nat (by omega), ← e, lit_1, EReal.coe_one, one_mul]
  rfl

/-- The weight of an upper corner as the reference writes it. -/
theorem weight_high (p : ℝ) :
    Ideal.ofBits .f32 0x3F800000#32
        + Ideal.ofBits .f32 0xBF800000#32 * ((FloatOps.sitofp (F := Ideal) .f32 (BitVec.ofNat 32 (Spec.ind (hi (p : EReal)))) : EReal) - (p : EReal))
      = whi (p : EReal) := by
  obtain ⟨e, l⟩ := hi_ind p
  rw [sitofp_nat (by omega), lit_1, lit_m1]
  unfold whi
  generalize Spec.ind (hi (p : EReal)) = q at e
  rw [e, ← EReal.coe_sub, ← EReal.coe_mul, ← EReal.coe_add, ← EReal.coe_sub]
  congr 1
  ring

theorem weight_low_row (hp : val_main_v35 (F := Ideal) al k = (p : EReal)) :
    val_main_v65 (F := Ideal) al k = wlo (p : EReal) := by
  rw [val_main_v65_apply, val_main_v64_apply, val_main_v63_apply, val_main_v62_apply, val_main_v61_apply, val_main_v60_apply,
    low_row al k hp, hp]
  exact weight_low p

theorem weight_low_col (hp : val_main_v45 (F := Ideal) al k = (p : EReal)) :
    val_main_v71 (F := Ideal) al k = wlo (p : EReal) := by
  rw [val_main_v71_apply, val_main_v70_apply, val_main_v69_apply, val_main_v68_apply, val_main_v67_apply, val_main_v66_apply,
    low_col al k hp, hp]
  exact weight_low p

theorem weight_high_row (hp : val_main_v35 (F := Ideal) al k = (p : EReal)) :
    val_main_v88 (F := Ideal) al k = whi (p : EReal) := by
  rw [val_main_v88_apply, val_main_v87_apply, val_main_v86_apply, val_main_v85_apply, val_main_v84_apply, val_main_v83_apply,
    high_row al k hp, hp]
  exact weight_high p

theorem weight_high_col (hp : val_main_v45 (F := Ideal) al k = (p : EReal)) :
    val_main_v94 (F := Ideal) al k = whi (p : EReal) := by
  rw [val_main_v94_apply, val_main_v93_apply, val_main_v92_apply, val_main_v91_apply, val_main_v90_apply, val_main_v89_apply,
    high_col al k hp, hp]
  exact weight_high p

/-! The reference computes each weight twice. -/

theorem again_low_row : val_main_v112 (F := Ideal) al = val_main_v65 al := rfl
theorem again_high_col : val_main_v118 (F := Ideal) al = val_main_v94 al := rfl
theorem again_high_row : val_main_v136 (F := Ideal) al = val_main_v88 al := rfl
theorem again_low_col : val_main_v142 (F := Ideal) al = val_main_v71 al := rfl

end

/-! ## The gathered image elements -/

/-- The gather: row `ch`, the column the word names. -/
theorem gather_at (y : FVec Ideal S96x51076 .f32) (w : IVec S451584x1 32) (ch : Fin 96) (k : Fin 451584) (n : ℕ)
    (hn : n < 51076) (h : (w (ix2 k 0)).toInt.toNat = n) :
    Host.gather gather_S96x51076_S451584x1_S96x451584_0_1_n_n_1_1_961 y w (ix2 ch k) = y (ix2 ch ⟨n, hn⟩) := by
  unfold Host.gather
  refine congrArg y (funext fun d => Fin.ext ?_)
  show (gather_S96x51076_S451584x1_S96x451584_0_1_n_n_1_1_961).start (ix2 ch k) w d
    + (gather_S96x51076_S451584x1_S96x451584_0_1_n_n_1_1_961).batchCoord (ix2 ch k) d
    + (gather_S96x51076_S451584x1_S96x451584_0_1_n_n_1_1_961).offCoord (ix2 ch k) d = _
  rw [GatherDims.batchCoord_eq_zero _ _ _ List.not_mem_nil]
  have h0 : (gather_S96x51076_S451584x1_S96x451584_0_1_n_n_1_1_961).start (ix2 ch k) w 0 = 0 := by
    unfold GatherDims.start
    exact dif_neg (fun h => absurd (List.mem_singleton.mp h) (by decide))
  have hm : (1 : Fin S96x51076.rank) ∈ (gather_S96x51076_S451584x1_S96x451584_0_1_n_n_1_1_961).startIndexMap :=
    List.mem_singleton.mpr rfl
  have hsi : (gather_S96x51076_S451584x1_S96x451584_0_1_n_n_1_1_961).siIdx (ix2 ch k)
      ⟨List.idxOf (1 : Fin S96x51076.rank) (gather_S96x51076_S451584x1_S96x451584_0_1_n_n_1_1_961).startIndexMap,
        List.idxOf_lt_length_iff.2 hm⟩ = ix2 k 0 := by
    funext b
    refine Fin.ext ?_
    match b with
    | ⟨0, _⟩ => rfl
    | ⟨1, _⟩ => rfl
  have hoff : (gather_S96x51076_S451584x1_S96x451584_0_1_n_n_1_1_961).offCoord (ix2 ch k) 1 = 0 :=
    GatherDims.offCoord_eq_zero _ _ _ (fun h => ((GatherDims.mem_sKept _ _).mp h).1 (List.mem_singleton.mpr rfl))
  have h1 : (gather_S96x51076_S451584x1_S96x451584_0_1_n_n_1_1_961).start (ix2 ch k) w 1 = n := by
    unfold GatherDims.start
    rw [dif_pos hm, hsi, h]
    show min n 51075 = n
    omega
  fin_cases d
  · refine congrArg₂ (· + ·) (congrArg (· + 0) h0) (rfl : _ = ch.val) |>.trans ?_
    simp
  · exact congrArg₂ (· + ·) (congrArg (· + 0) h1) hoff

/-- The image with one row and column of zeros on every side. -/
theorem padded_at (ch : Fin 96) (q q' : ℕ) (h : q < 226) (h' : q' < 226) :
    val_main_v1 (F := Ideal) x (ix3 ch ⟨q, h⟩ ⟨q', h'⟩) = Spec.pix (fun i j => x (ix4 0 ch i j)) (q + 2) (q' + 2) := by
  unfold val_main_v1 Spec.pix
  by_cases hi : (3 ≤ q + 2 ∧ q + 2 < 227) ∧ (3 ≤ q' + 2 ∧ q' + 2 < 227)
  · rw [dif_pos hi]
    refine (pad_apply_of_inside _ _ _ _ _ _ _ _
      (ix3 ch (⟨q + 2 - 3, by omega⟩ : Fin 224) (⟨q' + 2 - 3, by omega⟩ : Fin 224)) ?_).trans ?_
    · intro d
      fin_cases d <;> simp <;> omega
    unfold val_main_v0
    refine shapeCast_apply _ _ _ (ix4 0 ch (⟨q + 2 - 3, by omega⟩ : Fin 224) (⟨q' + 2 - 3, by omega⟩ : Fin 224)) ?_
    simp [Shape.rowMajor_val_three, Shape.rowMajor_val_four]
  · rw [dif_neg hi]
    have z : val_main_call0_v0 (F := Ideal) (Shape.Idx.first h_S_) = ((0 : ℝ) : EReal) := by
      rw [val_main_call0_v0_apply, val_main_c_apply]
      exact zero_word
    by_cases hR : 3 ≤ q + 2 ∧ q + 2 < 227
    · refine (pad_apply_of_not_inside _ _ _ _ _ _ _ _ (2 : Fin 3) ?_).trans z
      simp
      omega
    · refine (pad_apply_of_not_inside _ _ _ _ _ _ _ _ (1 : Fin 3) ?_).trans z
      simp
      omega

/-- The padded image's rows end to end. -/
theorem flat_at (ch : Fin 96) (q q' : ℕ) (h : q ≤ 225) (h' : q' ≤ 225) :
    val_main_v77 (F := Ideal) x (ix2 ch ⟨q * 226 + q', by omega⟩)
      = Spec.pix (fun i j => x (ix4 0 ch i j)) (q + 2) (q' + 2) := by
  unfold val_main_v77
  refine (shapeCast_apply _ _ _ (ix3 ch (⟨q, by omega⟩ : Fin 226) (⟨q', by omega⟩ : Fin 226)) ?_).trans
    (padded_at x ch q q' _ _)
  simp [Shape.rowMajor_val_two, Shape.rowMajor_val_three]
  omega

/-- The image elements the words of `w` name, for every channel. -/
def picked (w : IVec S224x224x9 32) : FVec Ideal S96x224x224x9 .f32 :=
  shapeCast _ (Host.gather gather_S96x51076_S451584x1_S96x451584_0_1_n_n_1_1_961 (val_main_v77 (F := Ideal) x)
    (broadcastInDim S451584x1 ![0] bcast_S451584_S451584x1_0 (shapeCast _ w shapeCasts_S224x224x9_S451584)))
    shapeCasts_S96x451584_S96x224x224x9

theorem picked_at (w : IVec S224x224x9 32) (ch : Fin 96) (i j : Fin 224) (n : Fin 9) (q q' : ℕ) (h : q ≤ 225) (h' : q' ≤ 225)
    (hw : w (ix3 i j n) = BitVec.ofNat 32 (q * 226 + q')) :
    picked x w (ix4 ch i j n) = Spec.pix (fun i j => x (ix4 0 ch i j)) (q + 2) (q' + 2) := by
  have hk : (i.val * 224 + j.val) * 9 + n.val < 451584 := by omega
  unfold picked
  refine (shapeCast_apply _ _ _ (ix2 ch (⟨(i.val * 224 + j.val) * 9 + n.val, hk⟩ : Fin 451584)) ?_).trans ?_
  · simp [Shape.rowMajor_val_two, Shape.rowMajor_val_four]
    omega
  refine (gather_at _ _ ch _ (q * 226 + q') (by omega) ?_).trans (flat_at x ch q q' h h')
  have e : broadcastInDim S451584x1 ![0] bcast_S451584_S451584x1_0 (shapeCast S451584 w shapeCasts_S224x224x9_S451584)
      (ix2 (⟨(i.val * 224 + j.val) * 9 + n.val, hk⟩ : Fin 451584) (0 : Fin 1)) = w (ix3 i j n) := by
    refine (broadcastInDim_apply _ _ _ _ (ix1 (⟨(i.val * 224 + j.val) * 9 + n.val, hk⟩ : Fin 451584)) ?_).trans ?_
    · intro a
      fin_cases a
      rfl
    · refine shapeCast_apply _ _ _ (ix3 i j n) ?_
      simp [Shape.rowMajor_val_one, Shape.rowMajor_val_three]
  rw [e, hw, toInt_small (by omega)]
  exact Int.toNat_natCast _

/-- The word of a row times the row length plus a column. -/
theorem address (q q' : ℕ) :
    IntOp.addi (IntOp.muli (BitVec.ofNat 32 q) 226#32) (BitVec.ofNat 32 q') = BitVec.ofNat 32 (q * 226 + q') := by
  show BitVec.ofNat 32 q * BitVec.ofNat 32 226 + BitVec.ofNat 32 q' = _
  rw [BitVec.ofNat_add, BitVec.ofNat_mul]

/-! The four gathers. -/

theorem gathered_1 : val_main_v79 (F := Ideal) x al = picked x (val_main_v75 (F := Ideal) al) := rfl
theorem gathered_2 : val_main_v102 (F := Ideal) x al = picked x (val_main_v98 (F := Ideal) al) := rfl
theorem gathered_3 : val_main_v126 (F := Ideal) x al = picked x (val_main_v122 (F := Ideal) al) := rfl
theorem gathered_4 : val_main_v150 (F := Ideal) x al = picked x (val_main_v146 (F := Ideal) al) := rfl

/-- The sample of tap `3b + a` at a pixel: the bilinear sample at the rotated position. -/
theorem sample_at {r : ℝ} (ch : Fin 96) (i j : Fin 224) (b a : Fin 3) (h : 3 * b.val + a.val < 9)
    (hr : al (ix4 0 0 i j) = (r : EReal)) :
    val_main_v154 (F := Ideal) x al (ix4 ch i j ⟨3 * b.val + a.val, h⟩)
      = Spec.samp (Spec.pix fun i j => x (ix4 0 ch i j)) (Spec.px i.val r b) (Spec.py j.val r a) := by
  have hp := row_at al i j b a h hr
  have hp' := col_at al i j b a h hr
  unfold Spec.px at hp ⊢
  unfold Spec.py at hp' ⊢
  generalize (i.val : ℝ) + 1 + ((b.val : ℝ) - 1) * (Real.cos r + Real.sin r) = p at hp ⊢
  generalize (j.val : ℝ) + 1 + ((a.val : ℝ) - 1) * (Real.cos r - Real.sin r) = p' at hp' ⊢
  generalize (⟨3 * b.val + a.val, h⟩ : Fin 9) = n at hp hp' ⊢
  have l := (lo_ind p).2
  have u := (hi_ind p).2
  have l' := (lo_ind p').2
  have u' := (hi_ind p').2
  have w1 : val_main_v81 (F := Ideal) al (ix4 ch i j n) = wlo (p : EReal) * wlo (p' : EReal) := by
    rw [val_main_v81_apply, val_main_v80_apply, val_main_v72_apply]
    exact congrArg₂ (fun s t : EReal => s * t) (weight_low_row al _ hp) (weight_low_col al _ hp')
  have w2 : val_main_v104 (F := Ideal) al (ix4 ch i j n) = whi (p : EReal) * whi (p' : EReal) := by
    rw [val_main_v104_apply, val_main_v103_apply, val_main_v95_apply]
    exact congrArg₂ (fun s t : EReal => s * t) (weight_high_row al _ hp) (weight_high_col al _ hp')
  have w3 : val_main_v128 (F := Ideal) al (ix4 ch i j n) = wlo (p : EReal) * whi (p' : EReal) := by
    rw [val_main_v128_apply, val_main_v127_apply, val_main_v119_apply, again_low_row, again_high_col]
    exact congrArg₂ (fun s t : EReal => s * t) (weight_low_row al _ hp) (weight_high_col al _ hp')
  have w4 : val_main_v152 (F := Ideal) al (ix4 ch i j n) = whi (p : EReal) * wlo (p' : EReal) := by
    rw [val_main_v152_apply, val_main_v151_apply, val_main_v143_apply, again_high_row, again_low_col]
    exact congrArg₂ (fun s t : EReal => s * t) (weight_high_row al _ hp) (weight_low_col al _ hp')
  have g1 : val_main_v79 (F := Ideal) x al (ix4 ch i j n)
      = Spec.pix (fun i j => x (ix4 0 ch i j)) (Spec.ind (lo (p : EReal)) + 2) (Spec.ind (lo (p' : EReal)) + 2) := by
    rw [gathered_1]
    refine picked_at x _ ch i j n _ _ l l' ?_
    rw [val_main_v75_apply, val_main_v74_apply, val_main_v73_apply, low_row al _ hp, low_col al _ hp']
    exact address _ _
  have g2 : val_main_v102 (F := Ideal) x al (ix4 ch i j n)
      = Spec.pix (fun i j => x (ix4 0 ch i j)) (Spec.ind (hi (p : EReal)) + 2) (Spec.ind (hi (p' : EReal)) + 2) := by
    rw [gathered_2]
    refine picked_at x _ ch i j n _ _ u u' ?_
    rw [val_main_v98_apply, val_main_v97_apply, val_main_v96_apply, high_row al _ hp, high_col al _ hp']
    exact address _ _
  have g3 : val_main_v126 (F := Ideal) x al (ix4 ch i j n)
      = Spec.pix (fun i j => x (ix4 0 ch i j)) (Spec.ind (lo (p : EReal)) + 2) (Spec.ind (hi (p' : EReal)) + 2) := by
    rw [gathered_3]
    refine picked_at x _ ch i j n _ _ l u' ?_
    rw [val_main_v122_apply, val_main_v121_apply, val_main_v120_apply, low_row al _ hp, high_col al _ hp']
    exact address _ _
  have g4 : val_main_v150 (F := Ideal) x al (ix4 ch i j n)
      = Spec.pix (fun i j => x (ix4 0 ch i j)) (Spec.ind (hi (p : EReal)) + 2) (Spec.ind (lo (p' : EReal)) + 2) := by
    rw [gathered_4]
    refine picked_at x _ ch i j n _ _ u l' ?_
    rw [val_main_v146_apply, val_main_v145_apply, val_main_v144_apply, high_row al _ hp, low_col al _ hp']
    exact address _ _
  rw [val_main_v154_apply, val_main_v130_apply, val_main_v106_apply, val_main_v82_apply, val_main_v105_apply,
    val_main_v129_apply, val_main_v153_apply, w1, w2, w3, w4, g1, g2, g3, g4]
  rfl

end Cert.ReferenceIdeal.Sample

end

end
-- ==== Proof.Ref.lean ====
/- THE REFERENCE'S RESULT, at one index: the constrained kernel applied to the samples, plus the bias. -/
module

public import proofs.«01_k».proof.Proof.RefSample
public import proofs.«01_k».proof.Proof.Array

@[expose] public section

noncomputable section

namespace Cert.ReferenceIdeal.Result

open Cert.ReferenceIdeal Cert.ReferenceIdeal.Gen Cert.ReferenceIdeal.Read Cert.ReferenceIdeal.Sample
open Idealize.ShloMosaic Idealize.ShloMosaic.TcCoe

variable (x : FVec Ideal S1x96x224x224 .f32) (al : FVec Ideal S1x1x224x224 .f32) (w : FVec Ideal S96x96x3x3 .f32)
  (bias : FVec Ideal S96 .f32)

/-! ## The constrained kernel -/

theorem first_row (o ch : Fin 96) (b : Fin 3) : val_main_v156 (F := Ideal) w (ix3 o ch b) = w (ix4 o ch 0 b) := by
  unfold val_main_v156
  refine (shapeCast_apply _ _ _ (ix4 o ch (0 : Fin 1) b) ?_).trans ?_
  · simp [Shape.rowMajor_val_three, Shape.rowMajor_val_four]
  · unfold val_main_v155
    exact extractStridedSlice_apply _ _ _ _ (ix4 o ch 0 b) (by intro d; fin_cases d <;> simp)

theorem last_row (o ch : Fin 96) (b : Fin 3) : val_main_v158 (F := Ideal) w (ix3 o ch b) = w (ix4 o ch 2 b) := by
  unfold val_main_v158
  refine (shapeCast_apply _ _ _ (ix4 o ch (0 : Fin 1) b) ?_).trans ?_
  · simp [Shape.rowMajor_val_three, Shape.rowMajor_val_four]
  · unfold val_main_v157
    exact extractStridedSlice_apply _ _ _ _ (ix4 o ch 2 b) (by intro d; fin_cases d <;> simp)

/-- The middle row: minus the first row minus the last is minus their sum, the weights being numbers. -/
theorem middle_row (hw : ∀ k, ∃ r : ℝ, w k = (r : EReal)) (o ch : Fin 96) (b : Fin 3) :
    val_main_v160 (F := Ideal) w (ix3 o ch b) = -((w (ix4 o ch 0 b) : EReal) + w (ix4 o ch 2 b)) := by
  rw [val_main_v160_apply, val_main_v159_apply, first_row, last_row]
  obtain ⟨r, e⟩ := hw (ix4 o ch 0 b)
  obtain ⟨r', e'⟩ := hw (ix4 o ch 2 b)
  rw [e, e']
  show -(r : EReal) - (r' : EReal) = -((r : EReal) + (r' : EReal))
  rw [← EReal.coe_neg, ← EReal.coe_sub, ← EReal.coe_add, ← EReal.coe_neg]
  exact congrArg _ (by ring)

/-- A row of the kernel as a block of one row. -/
theorem spread_at (y : FVec Ideal S96x96x3 .f32) (o ch : Fin 96) (b : Fin 3) :
    broadcastInDim S96x96x1x3 ![0, 1, 3] bcast_S96x96x3_S96x96x1x3_0_1_3 y (ix4 o ch (0 : Fin 1) b) = y (ix3 o ch b) :=
  broadcastInDim_apply _ _ _ _ (ix3 o ch b) (by intro d; fin_cases d <;> rfl)

theorem kernel_at (hw : ∀ k, ∃ r : ℝ, w k = (r : EReal)) (o ch : Fin 96) (a b : Fin 3) :
    val_main_v164 (F := Ideal) w (ix4 o ch a b) = Spec.buf (fun a b => w (ix4 o ch a b)) a b := by
  unfold val_main_v164
  have off : ∀ d : Fin 4, d.cast (rfl : S96x96x1x3.rank = S96x96x3x3.rank) ≠ (2 : Fin 4) →
      ((ix4 o ch (0 : Fin 1) b : S96x96x1x3.Idx) d).val = ((ix4 o ch a b : S96x96x3x3.Idx) (d.cast rfl)).val := by
    intro d hd
    fin_cases d
    · rfl
    · rfl
    · exact absurd rfl hd
    · rfl
  fin_cases a
  · refine (concatenate_apply_piece (2 : Fin S96x96x3x3.rank) _ _ _ 0 (by simp) S96x96x1x3 (val_main_v161 (F := Ideal) w) rfl rfl
      0 rfl (ix4 o ch (0 : Fin 1) b) off (by simp)).trans ?_
    exact (spread_at _ o ch b).trans (first_row w o ch b)
  · refine (concatenate_apply_piece (2 : Fin S96x96x3x3.rank) _ _ _ 1 (by simp) S96x96x1x3 (val_main_v162 (F := Ideal) w) rfl rfl
      1 rfl (ix4 o ch (0 : Fin 1) b) off (by simp)).trans ?_
    exact (spread_at _ o ch b).trans (middle_row w hw o ch b)
  · refine (concatenate_apply_piece (2 : Fin S96x96x3x3.rank) _ _ _ 2 (by simp) S96x96x1x3 (val_main_v163 (F := Ideal) w) rfl rfl
      2 rfl (ix4 o ch (0 : Fin 1) b) off (by simp)).trans ?_
    exact (spread_at _ o ch b).trans (last_row w o ch b)

/-! ## The samples, by window row and column -/

theorem window_at {r : ℝ} (ch : Fin 96) (i j : Fin 224) (a b : Fin 3) (hr : al (ix4 0 0 i j) = (r : EReal)) :
    val_main_v166 (F := Ideal) x al (ix5 ch i j a b)
      = Spec.samp (Spec.pix fun i j => x (ix4 0 ch i j)) (Spec.px i.val r b) (Spec.py j.val r a) := by
  unfold val_main_v166
  refine (transpose_apply _ _ _ _ (ix5 ch i j b a) (by intro d; fin_cases d <;> rfl)).trans ?_
  unfold val_main_v165
  refine (shapeCast_apply _ _ _ (ix4 ch i j (⟨3 * b.val + a.val, by omega⟩ : Fin 9)) ?_).trans
    (sample_at x al ch i j b a _ hr)
  simp [Shape.rowMajor_val_four, Shape.rowMajor_val_five]
  omega

/-! ## The contraction -/

/-- The contraction's dimension numbers. -/
abbrev D : DotDims S96x96x3x3 S96x224x224x3x3 S96x224x224 := dot_S96x96x3x3_S96x224x224x3x3_S96x224x224_231_340_0_12_n_n

/-- A contraction index: the window's row, its column, and the channel. -/
def axes : D.contr.Idx ≃ Fin 3 × Fin 3 × Fin 96 where
  toFun q := (q ⟨0, by decide⟩, q ⟨1, by decide⟩, q ⟨2, by decide⟩)
  invFun p := fun a => match a with
    | ⟨0, _⟩ => p.1
    | ⟨1, _⟩ => p.2.1
    | ⟨2, _⟩ => p.2.2
  left_inv q := by
    funext a
    match a with
    | ⟨0, _⟩ => rfl
    | ⟨1, _⟩ => rfl
    | ⟨2, _⟩ => rfl
  right_inv _ := rfl

/-- The contraction is the sum over the window's rows and columns and the channels. -/
theorem dot_at (A : FVec Ideal S96x96x3x3 .f32) (B : FVec Ideal S96x224x224x3x3 .f32) (o : Fin 96) (i j : Fin 224) :
    Host.dotGeneral D none A B (ix3 o i j)
      = (∑ a : Fin 3, ∑ b : Fin 3, ∑ ch : Fin 96, A (ix4 o ch a b) * B (ix5 ch i j a b) : EReal) := by
  show FloatOps.dotGeneral D none _ A B (ix3 o i j) = _
  rw [Ideal.dotGeneral_apply, ← Equiv.sum_comp axes.symm, Fintype.sum_prod_type]
  refine Finset.sum_congr rfl fun a _ => ?_
  rw [Fintype.sum_prod_type]
  refine Finset.sum_congr rfl fun b _ => Finset.sum_congr rfl fun ch _ => ?_
  refine congrArg₂ (fun s t : EReal => s * t) (congrArg A ?_) (congrArg B ?_)
  · funext d
    refine Fin.ext ?_
    match d with
    | ⟨0, _⟩ => rfl
    | ⟨1, _⟩ => rfl
    | ⟨2, _⟩ => rfl
    | ⟨3, _⟩ => rfl
  · funext d
    refine Fin.ext ?_
    match d with
    | ⟨0, _⟩ => rfl
    | ⟨1, _⟩ => rfl
    | ⟨2, _⟩ => rfl
    | ⟨3, _⟩ => rfl
    | ⟨4, _⟩ => rfl

/-- The channels' sum goes outermost. -/
theorem channels_first (f : Fin 96 → Fin 3 → Fin 3 → EReal) :
    ∑ a : Fin 3, ∑ b : Fin 3, ∑ ch : Fin 96, f ch a b = ∑ ch : Fin 96, ∑ a : Fin 3, ∑ b : Fin 3, f ch a b := by
  rw [Finset.sum_comm]
  refine (Finset.sum_congr rfl fun b _ => Finset.sum_comm).trans ?_
  rw [Finset.sum_comm]
  exact Finset.sum_congr rfl fun ch _ => Finset.sum_comm

/-! ## The bias and the result -/

theorem bias_at (o : Fin 96) (i j : Fin 224) : val_main_v169 (F := Ideal) bias (ix3 o i j) = bias (ix1 o) := by
  unfold val_main_v169
  refine (broadcastInDim_apply _ _ _ _ (ix3 o (0 : Fin 1) (0 : Fin 1)) (by intro d; fin_cases d <;> rfl)).trans ?_
  unfold val_main_v168
  exact broadcastInDim_apply _ _ _ _ (ix1 o) (by intro d; fin_cases d; rfl)

theorem value_at (hs : Cert.KernelIdeal.Array.Small al) (hw : ∀ k, ∃ r : ℝ, w k = (r : EReal)) (o : Fin 96) (i j : Fin 224) :
    val_main_v170 (F := Ideal) x al w bias (ix3 o i j) = Cert.KernelIdeal.Array.value x al w bias o i j := by
  rw [val_main_v170_apply, bias_at]
  unfold val_main_v167
  refine congrArg (fun s : EReal => s + bias (ix1 o)) ((dot_at _ _ o i j).trans ?_)
  obtain ⟨r, e, -, -⟩ := hs i j
  refine Eq.trans ?_ (channels_first _)
  refine Finset.sum_congr rfl fun a _ => Finset.sum_congr rfl fun b _ => Finset.sum_congr rfl fun ch _ => ?_
  rw [kernel_at w hw, window_at x al ch i j a b e]
  beta_reduce
  rw [e]
  rfl

/-- The reference's result is the array the kernel leaves. -/
theorem whole_eq (hs : Cert.KernelIdeal.Array.Small al) (hw : ∀ k, ∃ r : ℝ, w k = (r : EReal)) :
    val_main_v170 (F := Ideal) x al w bias = Cert.KernelIdeal.Array.whole x al w bias := by
  funext k
  have e : k = ix3 (k 0) (k 1) (k 2) := by
    funext d
    match d with
    | ⟨0, _⟩ => rfl
    | ⟨1, _⟩ => rfl
    | ⟨2, _⟩ => rfl
  exact (congrArg _ e).trans (value_at x al w bias hs hw (k 0) (k 1) (k 2))

end Cert.ReferenceIdeal.Result

end

end
-- ==== Proof.Pre.lean ====
/- WHAT THE PRECONDITION SAYS of the ideal arrays: every angle is a number between 0 and 1, every weight a number. -/
module

public import proofs.«01_k».proof.Proof.Axis
public import proofs.«01_k».proof.Proof.Gen.Pre_pre
public import Idealize.ShloMosaic.Lib.ReduceAll
public import Idealize.ShloMosaic.Lib.Affine
public import Idealize.ShloMosaic.Lib.KernelVsHost
public import Idealize.ShloMosaic.Lib.Pointwise.Index

@[expose] public section

noncomputable section

namespace Cert.Pre

open Cert.Pre_pre Cert.Pre_pre.Gen Cert.Axis
open Idealize.ShloMosaic

instance : Subsingleton S_.Idx := ⟨fun _ _ => funext fun d => d.elim0⟩

/-- A bit made of a decided proposition is one when the proposition holds. -/
theorem ofBool_decide {p : Prop} [Decidable p] (h : BitVec.ofBool (decide p) = 1#1) : p := by
  by_contra hp
  rw [decide_eq_false hp] at h
  exact absurd h (by decide)

/-- A broadcast scalar reads its literal everywhere. -/
theorem splat_at {t : Shape} (w : BitVec 32) (h : S_.BroadcastsInDim t (![] : Fin 0 → Fin t.rank)) (i : t.Idx) :
    broadcastInDim t ![] h (constant (F := Ideal) S_ .f32 w) i = Ideal.ofBits .f32 w := rfl

variable (x : FVec Ideal S1x96x224x224 .f32) (al : FVec Ideal S1x1x224x224 .f32) (w : FVec Ideal S96x96x3x3 .f32)
  (b : FVec Ideal S96 .f32)

/-- The angle at a pixel is a number between 0 and 1. -/
theorem angle_of (h : fn x al w b = fun _ => 1#1) (i : S1x1x224x224.Idx) :
    ∃ r : ℝ, al i = (r : EReal) ∧ 0 ≤ r ∧ r ≤ 1 := by
  have h0 := (IntOp.andi_eq_one.mp (congrFun h (fun d => d.elim0))).1
  have h1 := IntOp.andi_eq_one.mp (Host.reduce_andi_all _ _ _ _ _ h0 i)
  have lo : ((0 : ℝ) : EReal) ≤ al i := by
    rw [← lit_0]
    exact ofBool_decide h1.1
  have hi : al i ≤ ((1 : ℝ) : EReal) := by
    rw [← lit_1]
    exact ofBool_decide h1.2
  have nt : (al i : EReal) ≠ ⊤ := fun e => absurd (e ▸ hi) (not_le.mpr (EReal.coe_lt_top 1))
  have nb : (al i : EReal) ≠ ⊥ := fun e => absurd (e ▸ lo) (not_le.mpr (EReal.bot_lt_coe 0))
  have e : al i = ((EReal.toReal (al i) : ℝ) : EReal) := (EReal.coe_toReal nt nb).symm
  rw [e] at lo hi
  exact ⟨_, e, EReal.coe_le_coe_iff.mp lo, EReal.coe_le_coe_iff.mp hi⟩

/-- A weight is a number. -/
theorem weight_of (h : fn x al w b = fun _ => 1#1) (i : S96x96x3x3.Idx) : ∃ r : ℝ, w i = (r : EReal) := by
  have h0 := (IntOp.andi_eq_one.mp (congrFun h (fun d => d.elim0))).2
  have h1 := Host.reduce_andi_all _ _ _ _ _ h0 i
  have top : Ideal.ofBits .f32 0x7F800000#32 = ⊤ := by simp [Ideal.ofBits, Ideal.ieee]
  have lt : max (w i : EReal) (-(w i : EReal)) < ⊤ := by
    rw [← top]
    exact ofBool_decide h1
  have nt : (w i : EReal) ≠ ⊤ := fun e => by
    rw [e] at lt
    exact absurd (lt_of_le_of_lt (le_max_left _ _) lt) (lt_irrefl _)
  have nb : (w i : EReal) ≠ ⊥ := fun e => by
    rw [e] at lt
    exact absurd (lt_of_le_of_lt (le_max_right _ _) lt) (by simp)
  exact ⟨_, (EReal.coe_toReal nt nb).symm⟩

end Cert.Pre

end

end
-- ==== Proof.lean ====
/- The proof of the claims: the frames from the generated modules, the kernel's and the reference's result from
   `Cert.KernelIdeal.Array.result` and `Cert.ReferenceIdeal.Result.whole_eq`: both end with the array `whole`. -/
module

public import proofs.«01_k».proof.Proof.Gen.KernelIdeal.Value
public import proofs.«01_k».proof.Proof.Gen.ReferenceIdeal.Run
public import proofs.«01_k».proof.Proof.Gen.ReferenceIdeal.Read
public import proofs.«01_k».proof.Proof.Array
public import proofs.«01_k».proof.Proof.Ref
public import proofs.«01_k».proof.Proof.Pre
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_pre
public import Idealize.ShloMosaic.Adequacy
public import Idealize.ShloMosaic.Init

@[expose] public section

noncomputable section

namespace Cert.Proof

open Idealize.ShloMosaic Idealize.SL.Sem

/-- The kernel runs and leaves its arguments. -/
theorem frame_kernel : Cert.quiescent_Kernel (hKernel := Cert.Kernel.Gen.facts) :=
  fun m ρ _ => Cert.Kernel.Gen.frame m ρ

/-- So does the kernel over the extended reals. -/
theorem frame_ideal : Cert.quiescent_KernelIdeal (hKernelIdeal := Cert.KernelIdeal.Gen.facts) :=
  fun m ρ _ => Cert.KernelIdeal.Gen.frame m ρ

/-- So does the reference over the extended reals; it declares no semaphore. -/
theorem frame_reference : Cert.quiescent_ReferenceIdeal (hReferenceIdeal := Cert.ReferenceIdeal.Gen.facts) :=
  fun m ρ _ => (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- From memories that agree on the arguments, kernel and reference end with the same array. -/
theorem algebraic : Cert.algebraic_KernelIdeal_ReferenceIdeal_pre_pre (hKernelIdeal := Cert.KernelIdeal.Gen.facts)
    (hReferenceIdeal := Cert.ReferenceIdeal.Gen.facts) (hPre_pre := Cert.Pre_pre.Gen.facts) := by
  intro m ρ m' ρ' hpre hag
  refine ⟨fun c => Cert.KernelIdeal.Array.whole
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ⟨(h c).1.trans ?_, (h c).2⟩)
      (Cert.KernelIdeal.Value.run_blocks m ρ)
    exact Cert.KernelIdeal.Array.result m c (fun i j => Cert.Pre.angle_of _ _ _ _ (hpre c) (ix4 0 0 i j))
  · refine (θ_run Cert.ReferenceIdeal.defs _ _).mono (fun r h c => ⟨(h c).1.trans ?_, (h c).2⟩)
      (Cert.ReferenceIdeal.Value.run (F := Ideal) m' ρ')
    refine (Cert.ReferenceIdeal.Read.val_main_v170_eq (StableHlo.launchContents m' c)).trans ?_
    obtain ⟨e0, e1, e2, e3⟩ := hag c
    have s := Cert.Pre.angle_of _ _ _ _ (hpre c)
    have w := Cert.Pre.weight_of _ _ _ _ (hpre c)
    rw [← e1] at s
    rw [← e2] at w
    beta_reduce
    rw [← e0, ← e1, ← e2, ← e3]
    exact Cert.ReferenceIdeal.Result.whole_eq _ _ _ _ (fun i j => s (ix4 0 0 i j)) w

theorem claim : Cert.Claim :=
  ⟨Cert.Kernel.Gen.facts, Cert.KernelIdeal.Gen.facts, Cert.ReferenceIdeal.Gen.facts, Cert.Pre_pre.Gen.facts,
    frame_kernel, frame_ideal, fun m ρ _ => frame_ideal m ρ trivial, frame_reference,
    fun m ρ _ => frame_reference m ρ trivial, trivial, algebraic⟩

end Cert.Proof

end
